-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v17_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S8192x6x192 : Shape := ⟨3, ![8192, 6, 192]⟩
abbrev S8192x6x128 : Shape := ⟨3, ![8192, 6, 128]⟩
abbrev S_ : Shape := ⟨0, ![]⟩

class Facts : Prop where
  bcast_S_S8192x6x192 : S_.BroadcastsInDim S8192x6x192 (![] : Fin 0 → Fin S8192x6x192.rank)
  reducesTo_S8192x6x192_S_d0_1_2 : S8192x6x192.ReducesTo [0, 1, 2] S_
  h_S_ : 0 < S_.numel

variable [Facts]

def fn {F : FTy → Type} [FloatOps F] (main_arg0 : FVec F S8192x6x192 .f32) (main_arg1 : FVec F S8192x6x192 .f32) (main_arg2 : FVec F S8192x6x128 .f32) : IVec S_ 1 :=
  let main_v0 : FVec F S8192x6x192 .f32 := Host.absf main_arg0
  let main_cst : FVec F S_ .f32 := constant S_ .f32 0x7F800000#32
  let main_v1 : FVec F S8192x6x192 .f32 := broadcastInDim S8192x6x192 ![] bcast_S_S8192x6x192 main_cst
  let main_v2 : IVec S8192x6x192 1 := cmpf .olt main_v0 main_v1
  let main_c : IVec S_ 1 := constantI S_ 1 1#1
  let main_v3 : IVec S_ 1 := (fun x v => Host.reduce IntOp.andi x v reducesTo_S8192x6x192_S_d0_1_2 h_S_) main_v2 main_c
  let main_v4 : FVec F S8192x6x192 .f32 := Host.absf main_arg1
  let main_cst_0 : FVec F S_ .f32 := constant S_ .f32 0x7F800000#32
  let main_v5 : FVec F S8192x6x192 .f32 := broadcastInDim S8192x6x192 ![] bcast_S_S8192x6x192 main_cst_0
  let main_v6 : IVec S8192x6x192 1 := cmpf .olt main_v4 main_v5
  let main_c_1 : IVec S_ 1 := constantI S_ 1 1#1
  let main_v7 : IVec S_ 1 := (fun x v => Host.reduce IntOp.andi x v reducesTo_S8192x6x192_S_d0_1_2 h_S_) main_v6 main_c_1
  let main_v8 : IVec S_ 1 := andi main_v3 main_v7
  main_v8
-- ==== Pre_finite2.lean ====
abbrev S8192x4x128 : Shape := ⟨3, ![8192, 4, 128]⟩
abbrev S8192x2x128 : Shape := ⟨3, ![8192, 2, 128]⟩
abbrev S_ : Shape := ⟨0, ![]⟩

class Facts : Prop where
  bcast_S_S8192x4x128 : S_.BroadcastsInDim S8192x4x128 (![] : Fin 0 → Fin S8192x4x128.rank)
  reducesTo_S8192x4x128_S_d0_1_2 : S8192x4x128.ReducesTo [0, 1, 2] S_
  h_S_ : 0 < S_.numel
  bcast_S_S8192x2x128 : S_.BroadcastsInDim S8192x2x128 (![] : Fin 0 → Fin S8192x2x128.rank)
  reducesTo_S8192x2x128_S_d0_1_2 : S8192x2x128.ReducesTo [0, 1, 2] S_

variable [Facts]

def fn {F : FTy → Type} [FloatOps F] (main_arg0 : FVec F S8192x4x128 .f32) (main_arg1 : FVec F S8192x2x128 .f32) (main_arg2 : FVec F S8192x2x128 .f32) : IVec S_ 1 :=
  let main_v0 : FVec F S8192x4x128 .f32 := Host.absf main_arg0
  let main_cst : FVec F S_ .f32 := constant S_ .f32 0x7F800000#32
  let main_v1 : FVec F S8192x4x128 .f32 := broadcastInDim S8192x4x128 ![] bcast_S_S8192x4x128 main_cst
  let main_v2 : IVec S8192x4x128 1 := cmpf .olt main_v0 main_v1
  let main_c : IVec S_ 1 := constantI S_ 1 1#1
  let main_v3 : IVec S_ 1 := (fun x v => Host.reduce IntOp.andi x v reducesTo_S8192x4x128_S_d0_1_2 h_S_) main_v2 main_c
  let main_v4 : FVec F S8192x2x128 .f32 := Host.absf main_arg1
  let main_cst_0 : FVec F S_ .f32 := constant S_ .f32 0x7F800000#32
  let main_v5 : FVec F S8192x2x128 .f32 := broadcastInDim S8192x2x128 ![] bcast_S_S8192x2x128 main_cst_0
  let main_v6 : IVec S8192x2x128 1 := cmpf .olt main_v4 main_v5
  let main_c_1 : IVec S_ 1 := constantI S_ 1 1#1
  let main_v7 : IVec S_ 1 := (fun x v => Host.reduce IntOp.andi x v reducesTo_S8192x2x128_S_d0_1_2 h_S_) main_v6 main_c_1
  let main_v8 : IVec S_ 1 := andi main_v3 main_v7
  main_v8
-- ==== Kernel.lean ====
abbrev S8192x6x192 : Shape := ⟨3, ![8192, 6, 192]⟩
abbrev S8192x6x128 : Shape := ⟨3, ![8192, 6, 128]⟩
abbrev S_ : Shape := ⟨0, ![]⟩
abbrev S32x256x6x128 : Shape := ⟨4, ![32, 256, 6, 128]⟩
abbrev S6x32x128x256 : Shape := ⟨4, ![6, 32, 128, 256]⟩
abbrev S6x32x1x256 : Shape := ⟨4, ![6, 32, 1, 256]⟩
abbrev S6x32x15x256 : Shape := ⟨4, ![6, 32, 15, 256]⟩
abbrev S6x32x144x256 : Shape := ⟨4, ![6, 32, 144, 256]⟩
abbrev S6x8192x192 : Shape := ⟨3, ![6, 8192, 192]⟩
abbrev S6x8192x256 : Shape := ⟨3, ![6, 8192, 256]⟩
abbrev S8192x768 : Shape := ⟨2, ![8192, 768]⟩
abbrev S1x1024x256 : Shape := ⟨3, ![1, 1024, 256]⟩
abbrev S1x8192x256 : Shape := ⟨3, ![1, 8192, 256]⟩
abbrev S1x32x144x256 : Shape := ⟨4, ![1, 32, 144, 256]⟩
abbrev S1024x128 : Shape := ⟨2, ![1024, 128]⟩
abbrev S1x1024 : Shape := ⟨2, ![1, 1024]⟩
abbrev S144x1024 : Shape := ⟨2, ![144, 1024]⟩
abbrev S2x512x1024 : Shape := ⟨3, ![2, 512, 1024]⟩
abbrev S2x1x1024 : Shape := ⟨3, ![2, 1, 1024]⟩
abbrev S1x512x256 : Shape := ⟨3, ![1, 512, 256]⟩
abbrev S512x256 : Shape := ⟨2, ![512, 256]⟩
abbrev S1024x256 : Shape := ⟨2, ![1024, 256]⟩
abbrev S512x1024 : Shape := ⟨2, ![512, 1024]⟩
abbrev S1x512x1024 : Shape := ⟨3, ![1, 512, 1024]⟩
abbrev S1024 : Shape := ⟨1, ![1024]⟩
abbrev S1x1x1024 : Shape := ⟨3, ![1, 1, 1024]⟩
abbrev S1x1x144x256 : Shape := ⟨4, ![1, 1, 144, 256]⟩
abbrev S144x256 : Shape := ⟨2, ![144, 256]⟩
abbrev S256x1024 : Shape := ⟨2, ![256, 1024]⟩
abbrev S128x1024 : Shape := ⟨2, ![128, 1024]⟩

abbrev nBuf : Space → Nat
  | .hbm => 28
  | .vmem => 12
  | .smem => 0
  | _ => 0

abbrev bufTy : (tb : Table) → Fin (tcTables nBuf tb) → BufTy
  | .hbm, ⟨0, _⟩ => ⟨S8192x6x192, .f32⟩
  | .hbm, ⟨1, _⟩ => ⟨S8192x6x192, .f32⟩
  | .hbm, ⟨2, _⟩ => ⟨S8192x6x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x256x6x128, .f32⟩
  | .hbm, ⟨8, _⟩ => ⟨S6x32x128x256, .f32⟩
  | .hbm, ⟨9, _⟩ => ⟨S_, .f32⟩
  | .hbm, ⟨10, _⟩ => ⟨S6x32x1x256, .f32⟩
  | .hbm, ⟨11, _⟩ => ⟨S_, .f32⟩
  | .hbm, ⟨12, _⟩ => ⟨S6x32x15x256, .f32⟩
  | .hbm, ⟨13, _⟩ => ⟨S6x32x144x256, .f32⟩
  | .hbm, ⟨14, _⟩ => ⟨S8192x6x192, .f32⟩
  | .hbm, ⟨15, _⟩ => ⟨S8192x6x192, .f32⟩
  | .hbm, ⟨16, _⟩ => ⟨S6x8192x192, .f32⟩
  | .hbm, ⟨17, _⟩ => ⟨S_, .i32⟩
  | .hbm, ⟨18, _⟩ => ⟨S_, .f32⟩
  | .hbm, ⟨19, _⟩ => ⟨S6x8192x256, .f32⟩
  | .hbm, ⟨20, _⟩ => ⟨S6x8192x256, .bf16⟩
  | .hbm, ⟨21, _⟩ => ⟨S6x8192x192, .f32⟩
  | .hbm, ⟨22, _⟩ => ⟨S_, .i32⟩
  | .hbm, ⟨23, _⟩ => ⟨S_, .f32⟩
  | .hbm, ⟨24, _⟩ => ⟨S6x8192x256, .f32⟩
  | .hbm, ⟨25, _⟩ => ⟨S6x8192x256, .bf16⟩
  | .hbm, ⟨26, _⟩ => ⟨S6x32x144x256, .bf16⟩
  | .hbm, ⟨27, _⟩ => ⟨S8192x768, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x32x144x256, .bf16⟩
  | .local _ .vmem, ⟨5, _⟩ => ⟨S1x32x144x256, .bf16⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S144x1024, .f32⟩
  | .local _ .vmem, ⟨10, _⟩ => ⟨S2x512x1024, .f32⟩
  | .local _ .vmem, ⟨11, _⟩ => ⟨S2x1x1024, .f32⟩
  | _, _ => ⟨S8192x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def k0_mult1 : BitVec 32 :=
  let c0_i32 : BitVec 32 := 0#32
  c0_i32
@[reducible] def k0_t1_loop : Scf.Loop 32 :=
  let c0_i32_17 : BitVec 32 := 0#32
  let c2_i32 : BitVec 32 := 2#32
  let v23 : BitVec 32 := Scalar.addi c0_i32_17 c2_i32
  let c1_i32 : BitVec 32 := 1#32
  ⟨c0_i32_17, v23, c1_i32⟩
def k0_mult2 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c0_i32_23 : BitVec 32 := 0#32
  let v32 : BitVec 32 := Scalar.addi v31 c0_i32_23
  let c1_i32_24 : BitVec 32 := 1#32
  let v33 : BitVec 32 := Scalar.addi v32 c1_i32_24
  let c512_i32 : BitVec 32 := 512#32
  let v34 : BitVec 32 := Scalar.muli v33 c512_i32
  v34
def k0_off1 (k0_t1 : Fin k0_t1_loop.trips) (c0_i32_23 : BitVec 32) : Fin 3 → Nat :=
  let c0_25 : Index := 0#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let v32 : BitVec 32 := Scalar.addi v31 c0_i32_23
  let c1_i32_24 : BitVec 32 := 1#32
  let v33 : BitVec 32 := Scalar.addi v32 c1_i32_24
  let c512_i32 : BitVec 32 := 512#32
  let v34 : BitVec 32 := Scalar.muli v33 c512_i32
  let v35 : BitVec 32 := v34
  let v36 : Index := Scalar.indexCast v35
  let c0_26 : Index := 0#32
  ![0, v36.toNat, 0]
def k0_off2 (k0_t1 : Fin k0_t1_loop.trips) (c0_i32_37 : BitVec 32) : Fin 4 → Nat :=
  let c0_47 : Index := 0#32
  let c2_i32_46 : BitVec 32 := 2#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let v50 : BitVec 32 := Scalar.addi v31 c0_i32_37
  let v63 : BitVec 32 := Scalar.muli c2_i32_46 v50
  let v64 : Index := Scalar.indexCast v63
  let c0_48 : Index := 0#32
  let c0_49 : Index := 0#32
  ![0, v64.toNat, 0, 0]
def k0_off3 (k0_t1 : Fin k0_t1_loop.trips) (c0_i32_37 : BitVec 32) : Fin 4 → Nat :=
  let c0_53 : Index := 0#32
  let c2_i32_51 : BitVec 32 := 2#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let v50 : BitVec 32 := Scalar.addi v31 c0_i32_37
  let v69 : BitVec 32 := Scalar.muli c2_i32_51 v50
  let c1_i32_52 : BitVec 32 := 1#32
  let v70 : BitVec 32 := Scalar.addi v69 c1_i32_52
  let v71 : Index := Scalar.indexCast v70
  let c0_54 : Index := 0#32
  let c0_55 : Index := 0#32
  ![0, v71.toNat, 0, 0]
def k0_mult3 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c1_i32_63 : BitVec 32 := 1#32
  let v87 : BitVec 32 := Scalar.addi v31 c1_i32_63
  let c1_i32_64 : BitVec 32 := 1#32
  let v88 : BitVec 32 := Scalar.addi v87 c1_i32_64
  let c512_i32_65 : BitVec 32 := 512#32
  let v89 : BitVec 32 := Scalar.muli v88 c512_i32_65
  v89
def k0_mult4 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c2_i32_105 : BitVec 32 := 2#32
  let v142 : BitVec 32 := Scalar.addi v31 c2_i32_105
  let c1_i32_106 : BitVec 32 := 1#32
  let v143 : BitVec 32 := Scalar.addi v142 c1_i32_106
  let c512_i32_107 : BitVec 32 := 512#32
  let v144 : BitVec 32 := Scalar.muli v143 c512_i32_107
  v144
def k0_mult5 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c3_i32 : BitVec 32 := 3#32
  let v197 : BitVec 32 := Scalar.addi v31 c3_i32
  let c1_i32_147 : BitVec 32 := 1#32
  let v198 : BitVec 32 := Scalar.addi v197 c1_i32_147
  let c512_i32_148 : BitVec 32 := 512#32
  let v199 : BitVec 32 := Scalar.muli v198 c512_i32_148
  v199
def k0_mult6 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c4_i32 : BitVec 32 := 4#32
  let v252 : BitVec 32 := Scalar.addi v31 c4_i32
  let c1_i32_188 : BitVec 32 := 1#32
  let v253 : BitVec 32 := Scalar.addi v252 c1_i32_188
  let c512_i32_189 : BitVec 32 := 512#32
  let v254 : BitVec 32 := Scalar.muli v253 c512_i32_189
  v254
def k0_mult7 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c5_i32 : BitVec 32 := 5#32
  let v307 : BitVec 32 := Scalar.addi v31 c5_i32
  let c1_i32_229 : BitVec 32 := 1#32
  let v308 : BitVec 32 := Scalar.addi v307 c1_i32_229
  let c512_i32_230 : BitVec 32 := 512#32
  let v309 : BitVec 32 := Scalar.muli v308 c512_i32_230
  v309
def k0_mult8 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c6_i32 : BitVec 32 := 6#32
  let v362 : BitVec 32 := Scalar.addi v31 c6_i32
  let c1_i32_270 : BitVec 32 := 1#32
  let v363 : BitVec 32 := Scalar.addi v362 c1_i32_270
  let c512_i32_271 : BitVec 32 := 512#32
  let v364 : BitVec 32 := Scalar.muli v363 c512_i32_271
  v364
def k0_mult9 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c7_i32 : BitVec 32 := 7#32
  let v417 : BitVec 32 := Scalar.addi v31 c7_i32
  let c1_i32_311 : BitVec 32 := 1#32
  let v418 : BitVec 32 := Scalar.addi v417 c1_i32_311
  let c16_i32 : BitVec 32 := 16#32
  let v419 : BitVec 1 := Scalar.cmpi .eq v418 c16_i32
  let c0_i32_312 : BitVec 32 := 0#32
  let v420 : BitVec 32 := Scalar.select v419 c0_i32_312 v418
  let c512_i32_313 : BitVec 32 := 512#32
  let v421 : BitVec 32 := Scalar.muli v420 c512_i32_313
  v421
def k0_off4 (k0_t1 : Fin k0_t1_loop.trips) : Fin 3 → Nat :=
  let c0_314 : Index := 0#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c7_i32 : BitVec 32 := 7#32
  let v417 : BitVec 32 := Scalar.addi v31 c7_i32
  let c1_i32_311 : BitVec 32 := 1#32
  let v418 : BitVec 32 := Scalar.addi v417 c1_i32_311
  let c16_i32 : BitVec 32 := 16#32
  let v419 : BitVec 1 := Scalar.cmpi .eq v418 c16_i32
  let c0_i32_312 : BitVec 32 := 0#32
  let v420 : BitVec 32 := Scalar.select v419 c0_i32_312 v418
  let c512_i32_313 : BitVec 32 := 512#32
  let v421 : BitVec 32 := Scalar.muli v420 c512_i32_313
  let v422 : BitVec 32 := v421
  let v423 : Index := Scalar.indexCast v422
  let c0_315 : Index := 0#32
  ![0, v423.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x6x192 : Shape := ⟨3, ![8192, 6, 192]⟩
abbrev S8192x6x128 : Shape := ⟨3, ![8192, 6, 128]⟩
abbrev S6x8192x8192 : Shape := ⟨3, ![6, 8192, 8192]⟩
abbrev S_ : Shape := ⟨0, ![]⟩
abbrev S6x8192 : Shape := ⟨2, ![6, 8192]⟩
abbrev S6x8192x1 : Shape := ⟨3, ![6, 8192, 1]⟩
abbrev S6x128x8192 : Shape := ⟨3, ![6, 128, 8192]⟩
abbrev S8192x768 : Shape := ⟨2, ![8192, 768]⟩

abbrev nBuf : Space → Nat
  | .hbm => 24
  | .vmem => 0
  | .smem => 0
  | _ => 0

abbrev bufTy : (tb : Table) → Fin (tcTables nBuf tb) → BufTy
  | .hbm, ⟨0, _⟩ => ⟨S8192x6x192, .f32⟩
  | .hbm, ⟨1, _⟩ => ⟨S8192x6x192, .f32⟩
  | .hbm, ⟨2, _⟩ => ⟨S8192x6x128, .f32⟩
  | .hbm, ⟨3, _⟩ => ⟨S6x8192x8192, .f32⟩
  | .hbm, ⟨4, _⟩ => ⟨S_, .f32⟩
  | .hbm, ⟨5, _⟩ => ⟨S6x8192x8192, .f32⟩
  | .hbm, ⟨6, _⟩ => ⟨S6x8192x8192, .f32⟩
  | .hbm, ⟨7, _⟩ => ⟨S_, .f32⟩
  | .hbm, ⟨8, _⟩ => ⟨S6x8192, .f32⟩
  | .hbm, ⟨9, _⟩ => ⟨S_, .f32⟩
  | .hbm, ⟨10, _⟩ => ⟨S6x8192, .f32⟩
  | .hbm, ⟨11, _⟩ => ⟨S6x8192, .f32⟩
  | .hbm, ⟨12, _⟩ => ⟨S6x8192x1, .f32⟩
  | .hbm, ⟨13, _⟩ => ⟨S6x8192x8192, .f32⟩
  | .hbm, ⟨14, _⟩ => ⟨S6x8192x8192, .f32⟩
  | .hbm, ⟨15, _⟩ => ⟨S6x8192x8192, .f32⟩
  | .hbm, ⟨16, _⟩ => ⟨S_, .f32⟩
  | .hbm, ⟨17, _⟩ => ⟨S6x8192, .f32⟩
  | .hbm, ⟨18, _⟩ => ⟨S6x8192x1, .f32⟩
  | .hbm, ⟨19, _⟩ => ⟨S6x8192x8192, .f32⟩
  | .hbm, ⟨20, _⟩ => ⟨S6x8192x8192, .f32⟩
  | .hbm, ⟨21, _⟩ => ⟨S6x128x8192, .f32⟩
  | .hbm, ⟨22, _⟩ => ⟨S8192x6x128, .f32⟩
  | .hbm, ⟨23, _⟩ => ⟨S8192x768, .f32⟩
  | _, _ => ⟨S8192x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel2.lean ====
abbrev S8192x4x128 : Shape := ⟨3, ![8192, 4, 128]⟩
abbrev S8192x2x128 : Shape := ⟨3, ![8192, 2, 128]⟩
abbrev S_ : Shape := ⟨0, ![]⟩
abbrev S32x256x2x128 : Shape := ⟨4, ![32, 256, 2, 128]⟩
abbrev S2x32x128x256 : Shape := ⟨4, ![2, 32, 128, 256]⟩
abbrev S2x32x1x256 : Shape := ⟨4, ![2, 32, 1, 256]⟩
abbrev S2x32x15x256 : Shape := ⟨4, ![2, 32, 15, 256]⟩
abbrev S2x32x144x256 : Shape := ⟨4, ![2, 32, 144, 256]⟩
abbrev S4x8192x128 : Shape := ⟨3, ![4, 8192, 128]⟩
abbrev S2x8192x128 : Shape := ⟨3, ![2, 8192, 128]⟩
abbrev S8192x512 : Shape := ⟨2, ![8192, 512]⟩
abbrev S1x1024x128 : Shape := ⟨3, ![1, 1024, 128]⟩
abbrev S1x8192x128 : Shape := ⟨3, ![1, 8192, 128]⟩
abbrev S1x32x144x256 : Shape := ⟨4, ![1, 32, 144, 256]⟩
abbrev S1024x128 : Shape := ⟨2, ![1024, 128]⟩
abbrev S1x1024 : Shape := ⟨2, ![1, 1024]⟩
abbrev S144x1024 : Shape := ⟨2, ![144, 1024]⟩
abbrev S2x512x1024 : Shape := ⟨3, ![2, 512, 1024]⟩
abbrev S2x1x1024 : Shape := ⟨3, ![2, 1, 1024]⟩
abbrev S1x512x128 : Shape := ⟨3, ![1, 512, 128]⟩
abbrev S512x128 : Shape := ⟨2, ![512, 128]⟩
abbrev S512x1024 : Shape := ⟨2, ![512, 1024]⟩
abbrev S1x512x1024 : Shape := ⟨3, ![1, 512, 1024]⟩
abbrev S1024 : Shape := ⟨1, ![1024]⟩
abbrev S1x1x1024 : Shape := ⟨3, ![1, 1, 1024]⟩
abbrev S1x1x144x256 : Shape := ⟨4, ![1, 1, 144, 256]⟩
abbrev S144x256 : Shape := ⟨2, ![144, 256]⟩
abbrev S256x1024 : Shape := ⟨2, ![256, 1024]⟩
abbrev S128x1024 : Shape := ⟨2, ![128, 1024]⟩

abbrev nBuf : Space → Nat
  | .hbm => 28
  | .vmem => 12
  | .smem => 0
  | _ => 0

abbrev bufTy : (tb : Table) → Fin (tcTables nBuf tb) → BufTy
  | .hbm, ⟨0, _⟩ => ⟨S8192x4x128, .f32⟩
  | .hbm, ⟨1, _⟩ => ⟨S8192x2x128, .f32⟩
  | .hbm, ⟨2, _⟩ => ⟨S8192x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x256x2x128, .f32⟩
  | .hbm, ⟨8, _⟩ => ⟨S2x32x128x256, .f32⟩
  | .hbm, ⟨9, _⟩ => ⟨S_, .f32⟩
  | .hbm, ⟨10, _⟩ => ⟨S2x32x1x256, .f32⟩
  | .hbm, ⟨11, _⟩ => ⟨S_, .f32⟩
  | .hbm, ⟨12, _⟩ => ⟨S2x32x15x256, .f32⟩
  | .hbm, ⟨13, _⟩ => ⟨S2x32x144x256, .f32⟩
  | .hbm, ⟨14, _⟩ => ⟨S8192x4x128, .f32⟩
  | .hbm, ⟨15, _⟩ => ⟨S8192x4x128, .f32⟩
  | .hbm, ⟨16, _⟩ => ⟨S4x8192x128, .f32⟩
  | .hbm, ⟨17, _⟩ => ⟨S_, .i32⟩
  | .hbm, ⟨18, _⟩ => ⟨S_, .f32⟩
  | .hbm, ⟨19, _⟩ => ⟨S4x8192x128, .f32⟩
  | .hbm, ⟨20, _⟩ => ⟨S4x8192x128, .bf16⟩
  | .hbm, ⟨21, _⟩ => ⟨S2x8192x128, .f32⟩
  | .hbm, ⟨22, _⟩ => ⟨S_, .i32⟩
  | .hbm, ⟨23, _⟩ => ⟨S_, .f32⟩
  | .hbm, ⟨24, _⟩ => ⟨S2x8192x128, .f32⟩
  | .hbm, ⟨25, _⟩ => ⟨S2x8192x128, .bf16⟩
  | .hbm, ⟨26, _⟩ => ⟨S2x32x144x256, .bf16⟩
  | .hbm, ⟨27, _⟩ => ⟨S8192x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x32x144x256, .bf16⟩
  | .local _ .vmem, ⟨5, _⟩ => ⟨S1x32x144x256, .bf16⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S144x1024, .f32⟩
  | .local _ .vmem, ⟨10, _⟩ => ⟨S2x512x1024, .f32⟩
  | .local _ .vmem, ⟨11, _⟩ => ⟨S2x1x1024, .f32⟩
  | _, _ => ⟨S8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
@[reducible] def k0_t1_loop : Scf.Loop 32 :=
  let c0_i32_17 : BitVec 32 := 0#32
  let c2_i32 : BitVec 32 := 2#32
  let v23 : BitVec 32 := Scalar.addi c0_i32_17 c2_i32
  let c1_i32 : BitVec 32 := 1#32
  ⟨c0_i32_17, v23, c1_i32⟩
def k0_mult2 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c0_i32_23 : BitVec 32 := 0#32
  let v32 : BitVec 32 := Scalar.addi v31 c0_i32_23
  let c1_i32_24 : BitVec 32 := 1#32
  let v33 : BitVec 32 := Scalar.addi v32 c1_i32_24
  let c512_i32 : BitVec 32 := 512#32
  let v34 : BitVec 32 := Scalar.muli v33 c512_i32
  v34
def k0_off1 (k0_t1 : Fin k0_t1_loop.trips) (c0_i32_23 : BitVec 32) : Fin 3 → Nat :=
  let c0_25 : Index := 0#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let v32 : BitVec 32 := Scalar.addi v31 c0_i32_23
  let c1_i32_24 : BitVec 32 := 1#32
  let v33 : BitVec 32 := Scalar.addi v32 c1_i32_24
  let c512_i32 : BitVec 32 := 512#32
  let v34 : BitVec 32 := Scalar.muli v33 c512_i32
  let v35 : BitVec 32 := v34
  let v36 : Index := Scalar.indexCast v35
  let c0_26 : Index := 0#32
  ![0, v36.toNat, 0]
def k0_off2 (k0_t1 : Fin k0_t1_loop.trips) (c0_i32_37 : BitVec 32) : Fin 4 → Nat :=
  let c0_47 : Index := 0#32
  let c2_i32_46 : BitVec 32 := 2#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let v50 : BitVec 32 := Scalar.addi v31 c0_i32_37
  let v63 : BitVec 32 := Scalar.muli c2_i32_46 v50
  let v64 : Index := Scalar.indexCast v63
  let c0_48 : Index := 0#32
  let c0_49 : Index := 0#32
  ![0, v64.toNat, 0, 0]
def k0_off3 (k0_t1 : Fin k0_t1_loop.trips) (c0_i32_37 : BitVec 32) : Fin 4 → Nat :=
  let c0_53 : Index := 0#32
  let c2_i32_51 : BitVec 32 := 2#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let v50 : BitVec 32 := Scalar.addi v31 c0_i32_37
  let v69 : BitVec 32 := Scalar.muli c2_i32_51 v50
  let c1_i32_52 : BitVec 32 := 1#32
  let v70 : BitVec 32 := Scalar.addi v69 c1_i32_52
  let v71 : Index := Scalar.indexCast v70
  let c0_54 : Index := 0#32
  let c0_55 : Index := 0#32
  ![0, v71.toNat, 0, 0]
def k0_mult3 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c1_i32_63 : BitVec 32 := 1#32
  let v87 : BitVec 32 := Scalar.addi v31 c1_i32_63
  let c1_i32_64 : BitVec 32 := 1#32
  let v88 : BitVec 32 := Scalar.addi v87 c1_i32_64
  let c512_i32_65 : BitVec 32 := 512#32
  let v89 : BitVec 32 := Scalar.muli v88 c512_i32_65
  v89
def k0_mult4 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c2_i32_105 : BitVec 32 := 2#32
  let v142 : BitVec 32 := Scalar.addi v31 c2_i32_105
  let c1_i32_106 : BitVec 32 := 1#32
  let v143 : BitVec 32 := Scalar.addi v142 c1_i32_106
  let c512_i32_107 : BitVec 32 := 512#32
  let v144 : BitVec 32 := Scalar.muli v143 c512_i32_107
  v144
def k0_mult5 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c3_i32 : BitVec 32 := 3#32
  let v197 : BitVec 32 := Scalar.addi v31 c3_i32
  let c1_i32_147 : BitVec 32 := 1#32
  let v198 : BitVec 32 := Scalar.addi v197 c1_i32_147
  let c512_i32_148 : BitVec 32 := 512#32
  let v199 : BitVec 32 := Scalar.muli v198 c512_i32_148
  v199
def k0_mult6 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c4_i32 : BitVec 32 := 4#32
  let v252 : BitVec 32 := Scalar.addi v31 c4_i32
  let c1_i32_188 : BitVec 32 := 1#32
  let v253 : BitVec 32 := Scalar.addi v252 c1_i32_188
  let c512_i32_189 : BitVec 32 := 512#32
  let v254 : BitVec 32 := Scalar.muli v253 c512_i32_189
  v254
def k0_mult7 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c5_i32 : BitVec 32 := 5#32
  let v307 : BitVec 32 := Scalar.addi v31 c5_i32
  let c1_i32_229 : BitVec 32 := 1#32
  let v308 : BitVec 32 := Scalar.addi v307 c1_i32_229
  let c512_i32_230 : BitVec 32 := 512#32
  let v309 : BitVec 32 := Scalar.muli v308 c512_i32_230
  v309
def k0_mult8 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c6_i32 : BitVec 32 := 6#32
  let v362 : BitVec 32 := Scalar.addi v31 c6_i32
  let c1_i32_270 : BitVec 32 := 1#32
  let v363 : BitVec 32 := Scalar.addi v362 c1_i32_270
  let c512_i32_271 : BitVec 32 := 512#32
  let v364 : BitVec 32 := Scalar.muli v363 c512_i32_271
  v364
def k0_mult9 (k0_t1 : Fin k0_t1_loop.trips) : BitVec 32 :=
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c7_i32 : BitVec 32 := 7#32
  let v417 : BitVec 32 := Scalar.addi v31 c7_i32
  let c1_i32_311 : BitVec 32 := 1#32
  let v418 : BitVec 32 := Scalar.addi v417 c1_i32_311
  let c16_i32 : BitVec 32 := 16#32
  let v419 : BitVec 1 := Scalar.cmpi .eq v418 c16_i32
  let c0_i32_312 : BitVec 32 := 0#32
  let v420 : BitVec 32 := Scalar.select v419 c0_i32_312 v418
  let c512_i32_313 : BitVec 32 := 512#32
  let v421 : BitVec 32 := Scalar.muli v420 c512_i32_313
  v421
def k0_off4 (k0_t1 : Fin k0_t1_loop.trips) : Fin 3 → Nat :=
  let c0_314 : Index := 0#32
  let c8_i32 : BitVec 32 := 8#32
  let c0_i32_17 : BitVec 32 := 0#32
  let c1_i32 : BitVec 32 := 1#32
  let arg10 : BitVec 32 := Scf.iv c0_i32_17 c1_i32 k0_t1
  let v31 : BitVec 32 := Scalar.muli c8_i32 arg10
  let c7_i32 : BitVec 32 := 7#32
  let v417 : BitVec 32 := Scalar.addi v31 c7_i32
  let c1_i32_311 : BitVec 32 := 1#32
  let v418 : BitVec 32 := Scalar.addi v417 c1_i32_311
  let c16_i32 : BitVec 32 := 16#32
  let v419 : BitVec 1 := Scalar.cmpi .eq v418 c16_i32
  let c0_i32_312 : BitVec 32 := 0#32
  let v420 : BitVec 32 := Scalar.select v419 c0_i32_312 v418
  let c512_i32_313 : BitVec 32 := 512#32
  let v421 : BitVec 32 := Scalar.muli v420 c512_i32_313
  let v422 : BitVec 32 := v421
  let v423 : Index := Scalar.indexCast v422
  let c0_315 : Index := 0#32
  ![0, v423.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4x128 : Shape := ⟨3, ![8192, 4, 128]⟩
abbrev S8192x2x128 : Shape := ⟨3, ![8192, 2, 128]⟩
abbrev S8192x2x2x128 : Shape := ⟨4, ![8192, 2, 2, 128]⟩
abbrev S2x8192x8192x2 : Shape := ⟨4, ![2, 8192, 8192, 2]⟩
abbrev S2x2x8192x8192 : Shape := ⟨4, ![2, 2, 8192, 8192]⟩
abbrev S_ : Shape := ⟨0, ![]⟩
abbrev S2x2x8192 : Shape := ⟨3, ![2, 2, 8192]⟩
abbrev S2x2x8192x1 : Shape := ⟨4, ![2, 2, 8192, 1]⟩
abbrev S2x128x2x8192 : Shape := ⟨4, ![2, 128, 2, 8192]⟩
abbrev S8192x512 : Shape := ⟨2, ![8192, 512]⟩

abbrev nBuf : Space → Nat
  | .hbm => 26
  | .vmem => 0
  | .smem => 0
  | _ => 0

abbrev bufTy : (tb : Table) → Fin (tcTables nBuf tb) → BufTy
  | .hbm, ⟨0, _⟩ => ⟨S8192x4x128, .f32⟩
  | .hbm, ⟨1, _⟩ => ⟨S8192x2x128, .f32⟩
  | .hbm, ⟨2, _⟩ => ⟨S8192x2x128, .f32⟩
  | .hbm, ⟨3, _⟩ => ⟨S8192x2x2x128, .f32⟩
  | .hbm, ⟨4, _⟩ => ⟨S2x8192x8192x2, .f32⟩
  | .hbm, ⟨5, _⟩ => ⟨S2x2x8192x8192, .f32⟩
  | .hbm, ⟨6, _⟩ => ⟨S_, .f32⟩
  | .hbm, ⟨7, _⟩ => ⟨S2x2x8192x8192, .f32⟩
  | .hbm, ⟨8, _⟩ => ⟨S2x2x8192x8192, .f32⟩
  | .hbm, ⟨9, _⟩ => ⟨S_, .f32⟩
  | .hbm, ⟨10, _⟩ => ⟨S2x2x8192, .f32⟩
  | .hbm, ⟨11, _⟩ => ⟨S_, .f32⟩
  | .hbm, ⟨12, _⟩ => ⟨S2x2x8192, .f32⟩
  | .hbm, ⟨13, _⟩ => ⟨S2x2x8192, .f32⟩
  | .hbm, ⟨14, _⟩ => ⟨S2x2x8192x1, .f32⟩
  | .hbm, ⟨15, _⟩ => ⟨S2x2x8192x8192, .f32⟩
  | .hbm, ⟨16, _⟩ => ⟨S2x2x8192x8192, .f32⟩
  | .hbm, ⟨17, _⟩ => ⟨S2x2x8192x8192, .f32⟩
  | .hbm, ⟨18, _⟩ => ⟨S_, .f32⟩
  | .hbm, ⟨19, _⟩ => ⟨S2x2x8192, .f32⟩
  | .hbm, ⟨20, _⟩ => ⟨S2x2x8192x1, .f32⟩
  | .hbm, ⟨21, _⟩ => ⟨S2x2x8192x8192, .f32⟩
  | .hbm, ⟨22, _⟩ => ⟨S2x2x8192x8192, .f32⟩
  | .hbm, ⟨23, _⟩ => ⟨S2x128x2x8192, .f32⟩
  | .hbm, ⟨24, _⟩ => ⟨S8192x2x2x128, .f32⟩
  | .hbm, ⟨25, _⟩ => ⟨S8192x512, .f32⟩
  | _, _ => ⟨S8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S8192x768 : Shape := ⟨2, ![8192, 768]⟩
abbrev S8192x512 : Shape := ⟨2, ![8192, 512]⟩
abbrev S2048 : Shape := ⟨1, ![2048]⟩
abbrev S2048x2048 : Shape := ⟨2, ![2048, 2048]⟩
abbrev S8192x2048 : Shape := ⟨2, ![8192, 2048]⟩
abbrev S1x12288 : Shape := ⟨2, ![1, 12288]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S4x2048 : Shape := ⟨2, ![4, 2048]⟩
abbrev S_ : Shape := ⟨0, ![]⟩
abbrev S32x2048 : Shape := ⟨2, ![32, 2048]⟩
abbrev S40x2048 : Shape := ⟨2, ![40, 2048]⟩
abbrev S40 : Shape := ⟨1, ![40]⟩
abbrev S40x1 : Shape := ⟨2, ![40, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x2048 : Shape := ⟨2, ![1, 2048]⟩
abbrev S1x2048x2048 : Shape := ⟨3, ![1, 2048, 2048]⟩
abbrev S163840x128 : Shape := ⟨2, ![163840, 128]⟩
abbrev S8x8192 : Shape := ⟨2, ![8, 8192]⟩
abbrev S32x128 : Shape := ⟨2, ![32, 128]⟩
abbrev S256x768 : Shape := ⟨2, ![256, 768]⟩
abbrev S256x512 : Shape := ⟨2, ![256, 512]⟩
abbrev S256x2048 : Shape := ⟨2, ![256, 2048]⟩
abbrev S5120x128 : Shape := ⟨2, ![5120, 128]⟩
abbrev S8x256 : Shape := ⟨2, ![8, 256]⟩
abbrev S32x1 : Shape := ⟨2, ![32, 1]⟩
abbrev S1x768 : Shape := ⟨2, ![1, 768]⟩
abbrev S1x512 : Shape := ⟨2, ![1, 512]⟩
abbrev S768x2048 : Shape := ⟨2, ![768, 2048]⟩
abbrev S512x2048 : Shape := ⟨2, ![512, 2048]⟩
abbrev S256x2560 : Shape := ⟨2, ![256, 2560]⟩
abbrev S40x256 : Shape := ⟨2, ![40, 256]⟩
abbrev S4x256 : Shape := ⟨2, ![4, 256]⟩
abbrev S32x256 : Shape := ⟨2, ![32, 256]⟩

abbrev nBuf : Space → Nat
  | .hbm => 36
  | .vmem => 30
  | .smem => 0
  | _ => 0

abbrev bufTy : (tb : Table) → Fin (tcTables nBuf tb) → BufTy
  | .hbm, ⟨0, _⟩ => ⟨S8192x768, .f32⟩
  | .hbm, ⟨1, _⟩ => ⟨S8192x512, .f32⟩
  | .hbm, ⟨2, _⟩ => ⟨S8192x768, .f32⟩
  | .hbm, ⟨3, _⟩ => ⟨S2048, .f32⟩
  | .hbm, ⟨4, _⟩ => ⟨S2048x2048, .f32⟩
  | .hbm, ⟨5, _⟩ => ⟨S8192x2048, .f32⟩
  | .hbm, ⟨6, _⟩ => ⟨S1x12288, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S32x2048, .f32⟩
  | .hbm, ⟨16, _⟩ => ⟨S40x2048, .f32⟩
  | .hbm, ⟨17, _⟩ => ⟨S_, .f32⟩
  | .hbm, ⟨18, _⟩ => ⟨S4, .f32⟩
  | .hbm, ⟨19, _⟩ => ⟨S40, .f32⟩
  | .hbm, ⟨20, _⟩ => ⟨S40x1, .f32⟩
  | .hbm, ⟨21, _⟩ => ⟨S256, .i32⟩
  | .hbm, ⟨22, _⟩ => ⟨S256x1, .i32⟩
  | .hbm, ⟨23, _⟩ => ⟨S1x256, .i32⟩
  | .hbm, ⟨24, _⟩ => ⟨S256x256, .i32⟩
  | .hbm, ⟨25, _⟩ => ⟨S256x256, .i32⟩
  | .hbm, ⟨26, _⟩ => ⟨S256x256, .i1⟩
  | .hbm, ⟨27, _⟩ => ⟨S256x256, .bf16⟩
  | .hbm, ⟨28, _⟩ => ⟨S1x2048, .f32⟩
  | .hbm, ⟨29, _⟩ => ⟨S1x2048x2048, .f32⟩
  | .hbm, ⟨30, _⟩ => ⟨S1x2048, .f32⟩
  | .hbm, ⟨31, _⟩ => ⟨S8192x2048, .f32⟩
  | .hbm, ⟨32, _⟩ => ⟨S163840x128, .f32⟩
  | .hbm, ⟨33, _⟩ => ⟨S8x8192, .i32⟩
  | .hbm, ⟨34, _⟩ => ⟨S8x8192, .f32⟩
  | .hbm, ⟨35, _⟩ => ⟨S32x128, .f32⟩
  | .local _ .vmem, ⟨0, _⟩ => ⟨S256x768, .f32⟩
  | .local _ .vmem, ⟨1, _⟩ => ⟨S256x768, .f32⟩
  | .local _ .vmem, ⟨2, _⟩ => ⟨S256x512, .f32⟩
  | .local _ .vmem, ⟨3, _⟩ => ⟨S256x512, .f32⟩
  | .local _ .vmem, ⟨4, _⟩ => ⟨S256x768, .f32⟩
  | .local _ .vmem, ⟨5, _⟩ => ⟨S256x768, .f32⟩
  | .local _ .vmem, ⟨6, _⟩ => ⟨S1x2048, .f32⟩
  | .local _ .vmem, ⟨7, _⟩ => ⟨S1x2048x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S40x2048, .f32⟩
  | .local _ .vmem, ⟨15, _⟩ => ⟨S40x1, .f32⟩
  | .local _ .vmem, ⟨16, _⟩ => ⟨S256x256, .bf16⟩
  | .local _ .vmem, ⟨17, _⟩ => ⟨S256x2048, .f32⟩
  | .local _ .vmem, ⟨18, _⟩ => ⟨S256x2048, .f32⟩
  | .local _ .vmem, ⟨19, _⟩ => ⟨S5120x128, .f32⟩
  | .local _ .vmem, ⟨20, _⟩ => ⟨S5120x128, .f32⟩
  | .local _ .vmem, ⟨21, _⟩ => ⟨S8x256, .i32⟩
  | .local _ .vmem, ⟨22, _⟩ => ⟨S8x256, .i32⟩
  | .local _ .vmem, ⟨23, _⟩ => ⟨S8x256, .f32⟩
  | .local _ .vmem, ⟨24, _⟩ => ⟨S8x256, .f32⟩
  | .local _ .vmem, ⟨25, _⟩ => ⟨S32x128, .f32⟩
  | .local _ .vmem, ⟨26, _⟩ => ⟨S2048x2048, .bf16⟩
  | .local _ .vmem, ⟨27, _⟩ => ⟨S256x2048, .f32⟩
  | .local _ .vmem, ⟨28, _⟩ => ⟨S256x2048, .f32⟩
  | .local _ .vmem, ⟨29, _⟩ => ⟨S32x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v17_3 : Ref sig .tc := ⟨.hbm, 34, rfl⟩
abbrev main_v17_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 32 := Scalar.extui v16
  let c0_i32_7 : BitVec 32 := 0#32
  let v18 : BitVec 1 := Scalar.cmpi .ne v17 c0_i32_7
  v18

def k0_cond3 (i : grid0.Coords) : BitVec 1 :=
  let arg0 : BitVec 32 := BitVec.ofNat 32 (i 0).val
  let c2_i32_8 : BitVec 32 := 2#32
  let c0_i32_9 : BitVec 32 := 0#32
  let v19 : BitVec 1 := Scalar.cmpi .eq c2_i32_8 c0_i32_9
  let c1_i32_10 : BitVec 32 := 1#32
  let v20 : BitVec 32 := Scalar.select v19 c1_i32_10 c2_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c1_i32_14 : BitVec 32 := 1#32
  let v29 : BitVec 1 := Scalar.cmpi .eq v28 c1_i32_14
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5120x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S32x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S8192x768 : Shape := ⟨2, ![8192, 768]⟩
abbrev S8192x512 : Shape := ⟨2, ![8192, 512]⟩
abbrev S2048 : Shape := ⟨1, ![2048]⟩
abbrev S2048x2048 : Shape := ⟨2, ![2048, 2048]⟩
abbrev S8192x2048 : Shape := ⟨2, ![8192, 2048]⟩
abbrev S1x12288 : Shape := ⟨2, ![1, 12288]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S1x2048 : Shape := ⟨2, ![1, 2048]⟩
abbrev S768 : Shape := ⟨1, ![768]⟩
abbrev S512 : Shape := ⟨1, ![512]⟩
abbrev S_ : Shape := ⟨0, ![]⟩
abbrev S8192 : Shape := ⟨1, ![8192]⟩
abbrev S8192x1 : Shape := ⟨2, ![8192, 1]⟩
abbrev S1x768 : Shape := ⟨2, ![1, 768]⟩
abbrev S1x512 : Shape := ⟨2, ![1, 512]⟩

abbrev nBuf : Space → Nat
  | .hbm => 78
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x512, .f32⟩
  | .hbm, ⟨2, _⟩ => ⟨S8192x768, .f32⟩
  | .hbm, ⟨3, _⟩ => ⟨S2048, .f32⟩
  | .hbm, ⟨4, _⟩ => ⟨S2048x2048, .f32⟩
  | .hbm, ⟨5, _⟩ => ⟨S8192x2048, .f32⟩
  | .hbm, ⟨6, _⟩ => ⟨S1x12288, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S8192x2048, .f32⟩
  | .hbm, ⟨19, _⟩ => ⟨S8192x768, .f32⟩
  | .hbm, ⟨20, _⟩ => ⟨S8192x512, .f32⟩
  | .hbm, ⟨21, _⟩ => ⟨S8192x768, .f32⟩
  | .hbm, ⟨22, _⟩ => ⟨S768, .f32⟩
  | .hbm, ⟨23, _⟩ => ⟨S512, .f32⟩
  | .hbm, ⟨24, _⟩ => ⟨S768, .f32⟩
  | .hbm, ⟨25, _⟩ => ⟨S8192x768, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x768, .f32⟩
  | .hbm, ⟨37, _⟩ => ⟨S8192x768, .f32⟩
  | .hbm, ⟨38, _⟩ => ⟨S1x768, .f32⟩
  | .hbm, ⟨39, _⟩ => ⟨S8192x768, .f32⟩
  | .hbm, ⟨40, _⟩ => ⟨S8192x768, .f32⟩
  | .hbm, ⟨41, _⟩ => ⟨S8192x512, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S8192x768, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x768, .f32⟩
  | .hbm, ⟨69, _⟩ => ⟨S8192x768, .f32⟩
  | .hbm, ⟨70, _⟩ => ⟨S1x768, .f32⟩
  | .hbm, ⟨71, _⟩ => ⟨S8192x768, .f32⟩
  | .hbm, ⟨72, _⟩ => ⟨S8192x768, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proof.Steps.lean ====
/- What one grid point of the attention call computes, as a recursion over the sixteen chunks of 512 keys: the running
   maximum of the scores (a row over the 1024 queries) and the running weighted sum of the values (144 rows, the
   128 value coordinates, then the row of ones that carries the denominator, then padding). -/
module

public import proofs.«01_k».proof.Proof.Gen.KernelIdeal.Skeleton
public import Idealize.ShloMosaic.Lib.Pipeline.ValueKit

@[expose] public section

set_option maxRecDepth 16384

noncomputable section

namespace Cert.KernelIdeal.Flash

open Idealize.ShloMosaic Idealize.ShloMosaic.TcCoe Idealize.SL.Sem Cert.KernelIdeal.Gen

variable {F : FTy → Type} [FloatOps F]

theorem keys_inb (n : ℕ) : ∀ a, (![0, 512 * (n % 16), 0] : Fin 3 → ℕ) a + S1x512x256.size a ≤ S1x8192x256.size a := by
  intro a
  fin_cases a <;> simp [S1x512x256, S1x8192x256] <;> omega

theorem vals_inb (n : ℕ) : ∀ a, (![0, n % 32, 0, 0] : Fin 4 → ℕ) a + S1x1x144x256.size a ≤ S1x32x144x256.size a := by
  intro a
  fin_cases a <;> simp [S1x1x144x256, S1x32x144x256] <;> omega

/-- Chunk `n` of 512 keys (counted around the sixteen). -/
def keys (K : Vec F S1x8192x256 .bf16) (n : ℕ) : Vec F S1x512x256 .bf16 :=
  View.ld K (Rect.unit (s := S1x8192x256) ![0, 512 * (n % 16), 0] S1x512x256.size (keys_inb n))

/-- Block `n` of 256 columns of the transposed values. -/
def vals (V : Vec F S1x32x144x256 .bf16) (n : ℕ) : Vec F S1x1x144x256 .bf16 :=
  View.ld V (Rect.unit (s := S1x32x144x256) ![0, n % 32, 0, 0] S1x1x144x256.size (vals_inb n))

/-- The scores of chunk `n` against the block's queries, as the kernel keeps them. -/
def scores (Q : Vec F S1x1024x256 .bf16) (K : Vec F S1x8192x256 .bf16) (n : ℕ) : FVec F S1x512x1024 .f32 := k0_pay3 (keys K n) Q

/-- The largest score of chunk `n` at each query. -/
def tops (Q : Vec F S1x1024x256 .bf16) (K : Vec F S1x8192x256 .bf16) (n : ℕ) : FVec F S1x1x1024 .f32 := k0_pay4 (keys K n) Q

/-- The running maximum after the first `n` chunks. -/
def mx (Q : Vec F S1x1024x256 .bf16) (K : Vec F S1x8192x256 .bf16) : ℕ → FVec F S1x1024 .f32
  | 0 => k0_pay64
  | n + 1 => k0_pay9 (k0_pay5 (mx Q K n) (tops Q K n))

/-- The running weighted sum of the values after the first `n` chunks. -/
def acc (Q : Vec F S1x1024x256 .bf16) (K : Vec F S1x8192x256 .bf16) (V : Vec F S1x32x144x256 .bf16) : ℕ → FVec F S144x1024 .f32
  | 0 => k0_pay65
  | n + 1 => k0_pay8 (k0_pay6 (mx Q K n) (tops Q K n) (scores Q K n)) (k0_pay7 (mx Q K n) (tops Q K n)) (vals V (2 * n)) (vals V (2 * n + 1))
      (acc Q K V n)

/-- What the point leaves in its block of the result. -/
def out (Q : Vec F S1x1024x256 .bf16) (K : Vec F S1x8192x256 .bf16) (V : Vec F S1x32x144x256 .bf16) : FVec F S1024x128 .f32 :=
  k0_pay1 (k0_pay71 (acc Q K V 16)) (k0_pay72 (acc Q K V 16))

/-- A load names the same elements whatever way its offsets are written. -/
theorem ld_unit_congr {S : Shape} {e : EltTy} (X : S.Idx → Elt F e) {o o' s : Fin S.rank → ℕ} (h : o = o')
    (i : ∀ a, o a + s a ≤ S.size a) (i' : ∀ a, o' a + s a ≤ S.size a) : View.ld X (Rect.unit (s := S) o s i) = View.ld X (Rect.unit (s := S) o' s i') := by
  subst h; rfl

theorem off1_eq : ∀ (k : Fin k0_t1_loop.trips) (r : Fin 7), k0_off1 k (BitVec.ofNat 32 r.val) = ![0, 512 * ((8 * k.val + r.val + 1) % 16), 0] := by
  decide +kernel
theorem off2_eq : ∀ (k : Fin k0_t1_loop.trips) (r : Fin 8), k0_off2 k (BitVec.ofNat 32 r.val) = ![0, (2 * (8 * k.val + r.val)) % 32, 0, 0] := by
  decide +kernel
theorem off3_eq : ∀ (k : Fin k0_t1_loop.trips) (r : Fin 8), k0_off3 k (BitVec.ofNat 32 r.val) = ![0, (2 * (8 * k.val + r.val) + 1) % 32, 0, 0] := by
  decide +kernel
theorem off4_eq : ∀ k : Fin k0_t1_loop.trips, k0_off4 k = ![0, 512 * ((8 * k.val + 8) % 16), 0] := by
  decide +kernel

end Cert.KernelIdeal.Flash

end
-- ==== Proof.Payloads.lean ====
/- The eight passes of one trip are written out in the kernel, each with the same arithmetic: every pass's stored values
   are those of the first. -/
module

public import proofs.«01_k».proof.Proof.Steps

@[expose] public section

set_option maxRecDepth 16384

noncomputable section

namespace Cert.KernelIdeal.Flash

open Idealize.ShloMosaic Idealize.ShloMosaic.TcCoe Idealize.SL.Sem Cert.KernelIdeal.Gen

variable {F : FTy → Type} [FloatOps F]

section Scores
variable (K : Vec F S1x512x256 .bf16) (Q : Vec F S1x1024x256 .bf16)

theorem pay12_eq : k0_pay12 (k0_pay10 K) Q = k0_pay3 K Q := rfl
theorem pay13_eq : k0_pay13 (k0_pay10 K) Q = k0_pay4 K Q := rfl
theorem pay21_eq : k0_pay21 K Q = k0_pay3 K Q := rfl
theorem pay22_eq : k0_pay22 K Q = k0_pay4 K Q := rfl
theorem pay27_eq : k0_pay27 K Q = k0_pay3 K Q := rfl
theorem pay28_eq : k0_pay28 K Q = k0_pay4 K Q := rfl
theorem pay35_eq : k0_pay35 (k0_pay33 K) Q = k0_pay3 K Q := rfl
theorem pay36_eq : k0_pay36 (k0_pay33 K) Q = k0_pay4 K Q := rfl
theorem pay44_eq : k0_pay44 K Q = k0_pay3 K Q := rfl
theorem pay46_eq : k0_pay46 (k0_pay45 K Q) = k0_pay4 K Q := rfl
theorem pay52_eq : k0_pay52 K Q = k0_pay3 K Q := rfl
theorem pay53_eq : k0_pay53 K Q = k0_pay4 K Q := rfl
theorem pay58_eq : k0_pay58 K Q = k0_pay3 K Q := rfl
theorem pay59_eq : k0_pay59 K Q = k0_pay4 K Q := rfl
theorem pay67_eq : k0_pay67 K Q = k0_pay3 K Q := rfl
theorem pay68_eq : k0_pay68 K Q = k0_pay4 K Q := rfl
end Scores

section Update
variable (m : FVec F S1x1024 .f32) (c : FVec F S1x1x1024 .f32) (s : FVec F S1x512x1024 .f32) (V V' : Vec F S1x1x144x256 .bf16) (a : FVec F S144x1024 .f32)

/-- The next running maximum. -/
def nxt : FVec F S1x1024 .f32 := k0_pay9 (k0_pay5 m c)

/-- The next running sum. -/
def upd : FVec F S144x1024 .f32 := k0_pay8 (k0_pay6 m c s) (k0_pay7 m c) V V' a

theorem pay9_eq : k0_pay9 (k0_pay5 m c) = nxt m c := rfl
theorem pay19_eq : k0_pay19 (k0_pay14 m c) = nxt m c := rfl
theorem pay25_eq : k0_pay25 (k0_pay23 m c) = nxt m c := rfl
theorem pay32_eq : k0_pay32 (k0_pay29 m c) = nxt m c := rfl
theorem pay42_eq : k0_pay42 (k0_pay37 m c) = nxt m c := rfl
theorem pay50_eq : k0_pay50 (k0_pay47 m c) = nxt m c := rfl
theorem pay56_eq : k0_pay56 (k0_pay54 m c) = nxt m c := rfl
theorem pay70_eq : k0_pay70 (k0_pay60 m c) = nxt m c := rfl

theorem pay8_eq : k0_pay8 (k0_pay6 m c s) (k0_pay7 m c) V V' a = upd m c s V V' a := rfl
theorem pay18_eq : k0_pay18 (k0_pay15 m c s) (k0_pay16 m c) (k0_pay17 m c s V) V' a = upd m c s V V' a := rfl
theorem pay24_eq : k0_pay24 m c s V V' a = upd m c s V V' a := rfl
theorem pay31_eq : k0_pay31 m (k0_pay29 m c) (k0_pay30 m c s) V V' a = upd m c s V V' a := rfl
theorem pay41_eq : k0_pay41 (k0_pay38 m c s) (k0_pay39 m c) (k0_pay40 m c s V) V' a = upd m c s V V' a := rfl
theorem pay49_eq : k0_pay49 (k0_pay48 m c s V V' a) = upd m c s V V' a := rfl
theorem pay55_eq : k0_pay55 m (k0_pay54 m c) s V V' a = upd m c s V V' a := rfl
theorem pay69_eq : k0_pay69 (k0_pay61 m c s) (k0_pay62 m c) (k0_pay63 V) V' a = upd m c s V V' a := rfl
end Update

theorem mx_succ (Q : Vec F S1x1024x256 .bf16) (K : Vec F S1x8192x256 .bf16) (n : ℕ) : nxt (mx Q K n) (tops Q K n) = mx Q K (n + 1) := rfl

theorem acc_succ (Q : Vec F S1x1024x256 .bf16) (K : Vec F S1x8192x256 .bf16) (V : Vec F S1x32x144x256 .bf16) (n : ℕ) :
    upd (mx Q K n) (tops Q K n) (scores Q K n) (vals V (2 * n)) (vals V (2 * n + 1)) (acc Q K V n) = acc Q K V (n + 1) := rfl

theorem fold_scores (Q : Vec F S1x1024x256 .bf16) (K : Vec F S1x8192x256 .bf16) (n : ℕ) : k0_pay3 (keys K n) Q = scores Q K n := rfl
theorem fold_tops (Q : Vec F S1x1024x256 .bf16) (K : Vec F S1x8192x256 .bf16) (n : ℕ) : k0_pay4 (keys K n) Q = tops Q K n := rfl

theorem eight (n : ℕ) : 8 * (n + 1) = 8 * n + 8 := rfl

/-- After sixteen chunks the count comes round. -/
theorem keys_mod (K : Vec F S1x8192x256 .bf16) (n : ℕ) : keys K (n % 16) = keys K n := by
  unfold keys; exact ld_unit_congr _ (by rw [Nat.mod_mod]) _ _

section Loads
variable (K : Vec F S1x8192x256 .bf16) (V : Vec F S1x32x144x256 .bf16) (k : Fin k0_t1_loop.trips)

theorem ld_off1_0 (h) : View.ld K (Rect.unit (s := S1x8192x256) (k0_off1 k 0#32) S1x512x256.size h) = keys K (8 * k.val + 1) := ld_unit_congr _ (off1_eq k 0) _ _
theorem ld_off1_1 (h) : View.ld K (Rect.unit (s := S1x8192x256) (k0_off1 k 1#32) S1x512x256.size h) = keys K (8 * k.val + 2) := ld_unit_congr _ (off1_eq k 1) _ _
theorem ld_off1_2 (h) : View.ld K (Rect.unit (s := S1x8192x256) (k0_off1 k 2#32) S1x512x256.size h) = keys K (8 * k.val + 3) := ld_unit_congr _ (off1_eq k 2) _ _
theorem ld_off1_3 (h) : View.ld K (Rect.unit (s := S1x8192x256) (k0_off1 k 3#32) S1x512x256.size h) = keys K (8 * k.val + 4) := ld_unit_congr _ (off1_eq k 3) _ _
theorem ld_off1_4 (h) : View.ld K (Rect.unit (s := S1x8192x256) (k0_off1 k 4#32) S1x512x256.size h) = keys K (8 * k.val + 5) := ld_unit_congr _ (off1_eq k 4) _ _
theorem ld_off1_5 (h) : View.ld K (Rect.unit (s := S1x8192x256) (k0_off1 k 5#32) S1x512x256.size h) = keys K (8 * k.val + 6) := ld_unit_congr _ (off1_eq k 5) _ _
theorem ld_off1_6 (h) : View.ld K (Rect.unit (s := S1x8192x256) (k0_off1 k 6#32) S1x512x256.size h) = keys K (8 * k.val + 7) := ld_unit_congr _ (off1_eq k 6) _ _
theorem ld_off2_0 (h) : View.ld V (Rect.unit (s := S1x32x144x256) (k0_off2 k 0#32) S1x1x144x256.size h) = vals V (2 * (8 * k.val + 0)) := ld_unit_congr _ (off2_eq k 0) _ _
theorem ld_off2_1 (h) : View.ld V (Rect.unit (s := S1x32x144x256) (k0_off2 k 1#32) S1x1x144x256.size h) = vals V (2 * (8 * k.val + 1)) := ld_unit_congr _ (off2_eq k 1) _ _
theorem ld_off2_2 (h) : View.ld V (Rect.unit (s := S1x32x144x256) (k0_off2 k 2#32) S1x1x144x256.size h) = vals V (2 * (8 * k.val + 2)) := ld_unit_congr _ (off2_eq k 2) _ _
theorem ld_off2_3 (h) : View.ld V (Rect.unit (s := S1x32x144x256) (k0_off2 k 3#32) S1x1x144x256.size h) = vals V (2 * (8 * k.val + 3)) := ld_unit_congr _ (off2_eq k 3) _ _
theorem ld_off2_4 (h) : View.ld V (Rect.unit (s := S1x32x144x256) (k0_off2 k 4#32) S1x1x144x256.size h) = vals V (2 * (8 * k.val + 4)) := ld_unit_congr _ (off2_eq k 4) _ _
theorem ld_off2_5 (h) : View.ld V (Rect.unit (s := S1x32x144x256) (k0_off2 k 5#32) S1x1x144x256.size h) = vals V (2 * (8 * k.val + 5)) := ld_unit_congr _ (off2_eq k 5) _ _
theorem ld_off2_6 (h) : View.ld V (Rect.unit (s := S1x32x144x256) (k0_off2 k 6#32) S1x1x144x256.size h) = vals V (2 * (8 * k.val + 6)) := ld_unit_congr _ (off2_eq k 6) _ _
theorem ld_off2_7 (h) : View.ld V (Rect.unit (s := S1x32x144x256) (k0_off2 k 7#32) S1x1x144x256.size h) = vals V (2 * (8 * k.val + 7)) := ld_unit_congr _ (off2_eq k 7) _ _
theorem ld_off3_0 (h) : View.ld V (Rect.unit (s := S1x32x144x256) (k0_off3 k 0#32) S1x1x144x256.size h) = vals V (2 * (8 * k.val + 0) + 1) := ld_unit_congr _ (off3_eq k 0) _ _
theorem ld_off3_1 (h) : View.ld V (Rect.unit (s := S1x32x144x256) (k0_off3 k 1#32) S1x1x144x256.size h) = vals V (2 * (8 * k.val + 1) + 1) := ld_unit_congr _ (off3_eq k 1) _ _
theorem ld_off3_2 (h) : View.ld V (Rect.unit (s := S1x32x144x256) (k0_off3 k 2#32) S1x1x144x256.size h) = vals V (2 * (8 * k.val + 2) + 1) := ld_unit_congr _ (off3_eq k 2) _ _
theorem ld_off3_3 (h) : View.ld V (Rect.unit (s := S1x32x144x256) (k0_off3 k 3#32) S1x1x144x256.size h) = vals V (2 * (8 * k.val + 3) + 1) := ld_unit_congr _ (off3_eq k 3) _ _
theorem ld_off3_4 (h) : View.ld V (Rect.unit (s := S1x32x144x256) (k0_off3 k 4#32) S1x1x144x256.size h) = vals V (2 * (8 * k.val + 4) + 1) := ld_unit_congr _ (off3_eq k 4) _ _
theorem ld_off3_5 (h) : View.ld V (Rect.unit (s := S1x32x144x256) (k0_off3 k 5#32) S1x1x144x256.size h) = vals V (2 * (8 * k.val + 5) + 1) := ld_unit_congr _ (off3_eq k 5) _ _
theorem ld_off3_6 (h) : View.ld V (Rect.unit (s := S1x32x144x256) (k0_off3 k 6#32) S1x1x144x256.size h) = vals V (2 * (8 * k.val + 6) + 1) := ld_unit_congr _ (off3_eq k 6) _ _
theorem ld_off3_7 (h) : View.ld V (Rect.unit (s := S1x32x144x256) (k0_off3 k 7#32) S1x1x144x256.size h) = vals V (2 * (8 * k.val + 7) + 1) := ld_unit_congr _ (off3_eq k 7) _ _
theorem ld_off3_7' (h) : View.ld V (Rect.unit (s := S1x32x144x256) (k0_off3 k 7#32) ![1, 1, 144, 256] h) = vals V (2 * (8 * k.val + 7) + 1) := ld_off3_7 V k h
theorem ld_off4 (h) : View.ld K (Rect.unit (s := S1x8192x256) (k0_off4 k) S1x512x256.size h) = keys K (8 * k.val + 8) := ld_unit_congr _ (off4_eq k) _ _

end Loads

/-- The two slots of the kept scores. -/
abbrev slot0 : Rect S2x512x1024 := Rect.unit (s := S2x512x1024) ![0, 0, 0] S1x512x1024.size inb_S2x512x1024_S1x512x1024_0_0_0
abbrev slot1 : Rect S2x512x1024 := Rect.unit (s := S2x512x1024) ![1, 0, 0] S1x512x1024.size inb_S2x512x1024_S1x512x1024_1_0_0
/-- The two slots of the kept chunk maxima. -/
abbrev top0 : Rect S2x1x1024 := Rect.unit (s := S2x1x1024) ![0, 0, 0] S1x1x1024.size inb_S2x1x1024_S1x1x1024_0_0_0
abbrev top1 : Rect S2x1x1024 := Rect.unit (s := S2x1x1024) ![1, 0, 0] S1x1x1024.size inb_S2x1x1024_S1x1x1024_1_0_0

theorem slot0_not_mem (x) : slot0.idx x ∉ slot1.set :=
  slot1.not_mem_set_of_axis _ 0 1 1 rfl rfl rfl (.inl (by have h : (x 0).val < 1 := (x 0).isLt; show 0 + 1 * (x 0).val < 1; omega))
theorem slot1_not_mem (x) : slot1.idx x ∉ slot0.set :=
  slot0.not_mem_set_of_axis _ 0 0 1 rfl rfl rfl (.inr (by show 0 + 1 ≤ 1 + 1 * (x 0).val; omega))
theorem top0_not_mem (x) : top0.idx x ∉ top1.set :=
  top1.not_mem_set_of_axis _ 0 1 1 rfl rfl rfl (.inl (by have h : (x 0).val < 1 := (x 0).isLt; show 0 + 1 * (x 0).val < 1; omega))
theorem top1_not_mem (x) : top1.idx x ∉ top0.set :=
  top0.not_mem_set_of_axis _ 0 0 1 rfl rfl rfl (.inr (by show 0 + 1 ≤ 1 + 1 * (x 0).val; omega))

section Reads
variable {sig : RefSig} {κ : Kind} {sp : Space} {s : Shape} {e : EltTy} {Val : EltTy → Type} [∀ e, Nonempty (Val e)]

/-- A load at the place just stored reads the stored value. -/
theorem cov_hit (v : View sig κ sp s e) (r : Rect s) (w : r.shape.Idx → Val e) (L : List (View.Piece Val s e)) :
    v.readCov (⟨r, w⟩ :: L) r.toLoadRect = w :=
  funext fun x => View.read_writes_cons_emb v v.junk r w L x

/-- A load off the place just stored reads what was there before. -/
theorem cov_miss (v : View sig κ sp s e) (p : View.Piece Val s e) (B : Rect s) (L : List (View.Piece Val s e)) (h : ∀ x, B.idx x ∉ p.1.set) :
    v.readCov (p :: L) B.toLoadRect = v.readCov L B.toLoadRect :=
  funext fun x => View.read_writes_cons_miss v v.junk p L (B.idx x) (h x)

theorem read_hit (v : View sig κ sp s e) (f : v.ty.Contents Val) (r : Rect s) (w : r.shape.Idx → Val e) (L : List (View.Piece Val s e)) :
    View.ld (v.read Val (v.writes Val f (⟨r, w⟩ :: L))) r = w :=
  funext fun x => View.read_writes_cons_emb v f r w L x

theorem read_miss (v : View sig κ sp s e) (f : v.ty.Contents Val) (p : View.Piece Val s e) (B : Rect s) (L : List (View.Piece Val s e))
    (h : ∀ x, B.idx x ∉ p.1.set) : View.ld (v.read Val (v.writes Val f (p :: L))) B = View.ld (v.read Val (v.writes Val f L)) B :=
  funext fun x => View.read_writes_cons_miss v f p L (B.idx x) (h x)

end Reads

/-- The offset of a whole buffer. -/
theorem z2 : (![0, 0] : Fin 2 → ℕ) = fun _ => 0 := by decide
theorem z3 : (![0, 0, 0] : Fin 3 → ℕ) = fun _ => 0 := by decide

/-- A buffer stored whole last reads the stored value. -/
theorem whole_hit {κ : Kind} {sp : Space} {S : Shape} {e : EltTy} {Val : EltTy → Type} [∀ e, Nonempty (Val e)] (v : View sig κ sp S e) (f : v.ty.Contents Val)
    {off : Fin S.rank → ℕ} (h : off = fun _ => 0) (inb : ∀ a, off a + S.size a ≤ S.size a) (w : S.Idx → Val e) (L : List (View.Piece Val S e)) :
    v.read Val (v.writes Val f (⟨Rect.unit (s := S) off S.size inb, w⟩ :: L)) = w := by
  subst h; funext y
  have e := View.read_writes_cons_emb v f (Rect.whole S) w L y
  rw [Rect.emb_whole_apply] at e
  exact e

section Slots
variable {κ : Kind} {sp : Space} {Val : EltTy → Type} [∀ e, Nonempty (Val e)]

theorem cov_slot0 (v : View sig κ sp S2x512x1024 .f32) (w) (L : List (View.Piece Val S2x512x1024 .f32)) :
    v.readCov (⟨slot1, w⟩ :: L) slot0.toLoadRect = v.readCov L slot0.toLoadRect := cov_miss v ⟨slot1, w⟩ slot0 L slot0_not_mem
theorem cov_slot1 (v : View sig κ sp S2x512x1024 .f32) (w) (L : List (View.Piece Val S2x512x1024 .f32)) :
    v.readCov (⟨slot0, w⟩ :: L) slot1.toLoadRect = v.readCov L slot1.toLoadRect := cov_miss v ⟨slot0, w⟩ slot1 L slot1_not_mem
theorem cov_top0 (v : View sig κ sp S2x1x1024 .f32) (w) (L : List (View.Piece Val S2x1x1024 .f32)) :
    v.readCov (⟨top1, w⟩ :: L) top0.toLoadRect = v.readCov L top0.toLoadRect := cov_miss v ⟨top1, w⟩ top0 L top0_not_mem
theorem cov_top1 (v : View sig κ sp S2x1x1024 .f32) (w) (L : List (View.Piece Val S2x1x1024 .f32)) :
    v.readCov (⟨top0, w⟩ :: L) top1.toLoadRect = v.readCov L top1.toLoadRect := cov_miss v ⟨top0, w⟩ top1 L top1_not_mem
end Slots

end Cert.KernelIdeal.Flash

end
-- ==== Proof.TripRun.lean ====
/- One trip of the kernel's loop: eight chunks of keys are folded in, and the scores of the chunk after them are left ready. -/
module

public import proofs.«01_k».proof.Proof.Payloads
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 4000000 in
/-- A trip runs, leaving some writes in each of its four buffers. -/
def tripRun (𝒱 : Variants) (c : Dev nD) (bd : Option 𝒱.V) (E : Set ℕ) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x32x144x256 .bf16) (harg4 : arg4.IsWhole) (arg5 : Memref sig .tc .vmem S1024x128 .f32) (harg5 : arg5.IsWhole) (arg6 : Memref sig .tc .vmem S1x1024 .f32) (harg6 : arg6.IsWhole) (arg7 : Memref sig .tc .vmem S144x1024 .f32) (harg7 : arg7.IsWhole) (arg8 : Memref sig .tc .vmem S2x512x1024 .f32) (harg8 : arg8.IsWhole) (arg9 : Memref sig .tc .vmem S2x1x1024 .f32) (harg9 : arg9.IsWhole)
    (f2 : Buf (Elt F) (arg2.view.loc (c : Thread nD τ))) (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (k : Fin k0_t1_loop.trips) :
    Σ' (L6 : List (View.Piece (Elt F) S1x1024 .f32)) (L7 : List (View.Piece (Elt F) S144x1024 .f32)) (L8 : List (View.Piece (Elt F) S2x512x1024 .f32)), { L9 : List (View.Piece (Elt F) S2x1x1024 .f32) //
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
        ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 k ()) fun _ => iprop(
        (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
        ∗ (arg6.view.loc (c : Thread nD τ) ↦[arg6.view.set]{fullShare} (arg6.view.writes (Elt F) f6 L6)) ∗ (arg7.view.loc (c : Thread nD τ) ↦[arg7.view.set]{fullShare} (arg7.view.writes (Elt F) f7 L7))
        ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9))) } := by
  refine ⟨?_, ?_, ?_, ?_, ?run⟩
  case run =>
    unfold k0_t1_body
    iintro ⟨H2, H3, H4, H6, H7, H8, H9⟩
    sl_exec
    sl_step
    isplitl [H2]; · iexact H2
    isplitl [H3]; · iexact H3
    isplitl [H4]; · iexact H4
    isplitl [H6]; · iexact H6
    isplitl [H7]; · iexact H7
    isplitl [H8]; · iexact H8
    iexact H9

end Cert.KernelIdeal.Flash

end
-- ==== Proof.Trip.lean ====
/- What the writes of one trip leave: the recursion's state eight chunks on. -/
module

public import proofs.«01_k».proof.Proof.TripRun
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

section Values
variable (𝒱 : Variants) (c : Dev nD) (bd : Option 𝒱.V) (E : Set ℕ) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x32x144x256 .bf16) (harg4 : arg4.IsWhole) (arg5 : Memref sig .tc .vmem S1024x128 .f32) (harg5 : arg5.IsWhole) (arg6 : Memref sig .tc .vmem S1x1024 .f32) (harg6 : arg6.IsWhole) (arg7 : Memref sig .tc .vmem S144x1024 .f32) (harg7 : arg7.IsWhole) (arg8 : Memref sig .tc .vmem S2x512x1024 .f32) (harg8 : arg8.IsWhole) (arg9 : Memref sig .tc .vmem S2x1x1024 .f32) (harg9 : arg9.IsWhole)
    (f2 : Buf (Elt F) (arg2.view.loc (c : Thread nD τ))) (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (k : Fin k0_t1_loop.trips)
    (h6 : arg6.view.read (Elt F) f6 = mx (arg2.view.read (Elt F) f2) (arg3.view.read (Elt F) f3) (8 * k.val))
    (h7 : arg7.view.read (Elt F) f7 = acc (arg2.view.read (Elt F) f2) (arg3.view.read (Elt F) f3) (arg4.view.read (Elt F) f4) (8 * k.val))
    (h8 : View.ld (arg8.view.read (Elt F) f8) slot0 = scores (arg2.view.read (Elt F) f2) (arg3.view.read (Elt F) f3) (8 * k.val))
    (h9 : View.ld (arg9.view.read (Elt F) f9) top0 = tops (arg2.view.read (Elt F) f2) (arg3.view.read (Elt F) f3) (8 * k.val))

set_option maxHeartbeats 4000000 in
include h6 h7 h8 h9 in
theorem tripRun_6 : arg6.view.read (Elt F) (arg6.view.writes (Elt F) f6 (tripRun (F := F) 𝒱 c bd E i arg2 harg2 arg3 harg3 arg4 harg4 arg5 harg5 arg6 harg6 arg7 harg7 arg8 harg8 arg9 harg9 f2 f3 f4 f6 f7 f8 f9 k).1) = mx (arg2.view.read (Elt F) f2) (arg3.view.read (Elt F) f3) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x256) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

set_option maxHeartbeats 4000000 in
include h6 h7 h8 h9 in
theorem tripRun_7 : arg7.view.read (Elt F) (arg7.view.writes (Elt F) f7 (tripRun (F := F) 𝒱 c bd E i arg2 harg2 arg3 harg3 arg4 harg4 arg5 harg5 arg6 harg6 arg7 harg7 arg8 harg8 arg9 harg9 f2 f3 f4 f6 f7 f8 f9 k).2.1) = acc (arg2.view.read (Elt F) f2) (arg3.view.read (Elt F) f3) (arg4.view.read (Elt F) f4) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x256) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

set_option maxHeartbeats 4000000 in
include h6 h7 h8 h9 in
theorem tripRun_8 : View.ld (arg8.view.read (Elt F) (arg8.view.writes (Elt F) f8 (tripRun (F := F) 𝒱 c bd E i arg2 harg2 arg3 harg3 arg4 harg4 arg5 harg5 arg6 harg6 arg7 harg7 arg8 harg8 arg9 harg9 f2 f3 f4 f6 f7 f8 f9 k).2.2.1)) slot0 = scores (arg2.view.read (Elt F) f2) (arg3.view.read (Elt F) f3) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x256) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

set_option maxHeartbeats 4000000 in
include h6 h7 h8 h9 in
theorem tripRun_9 : View.ld (arg9.view.read (Elt F) (arg9.view.writes (Elt F) f9 (tripRun (F := F) 𝒱 c bd E i arg2 harg2 arg3 harg3 arg4 harg4 arg5 harg5 arg6 harg6 arg7 harg7 arg8 harg8 arg9 harg9 f2 f3 f4 f6 f7 f8 f9 k).2.2.2.1)) top0 = tops (arg2.view.read (Elt F) f2) (arg3.view.read (Elt F) f3) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x256) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

end Values

end Cert.KernelIdeal.Flash

end
-- ==== Proof.Point.lean ====
/- One grid point of the kernel: from the blocks of queries, keys and values to the block of the result. -/
module

public import proofs.«01_k».proof.Proof.Trip
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

section Loop
variable (𝒱 : Variants) (c : Dev nD) (bd : Option 𝒱.V) (E : Set ℕ) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x32x144x256 .bf16) (harg4 : arg4.IsWhole) (arg5 : Memref sig .tc .vmem S1024x128 .f32) (harg5 : arg5.IsWhole) (arg6 : Memref sig .tc .vmem S1x1024 .f32) (harg6 : arg6.IsWhole) (arg7 : Memref sig .tc .vmem S144x1024 .f32) (harg7 : arg7.IsWhole) (arg8 : Memref sig .tc .vmem S2x512x1024 .f32) (harg8 : arg8.IsWhole) (arg9 : Memref sig .tc .vmem S2x1x1024 .f32) (harg9 : arg9.IsWhole)
    (f2 : Buf (Elt F) (arg2.view.loc (c : Thread nD τ))) (f3 : Buf (Elt F) (arg3.view.loc (c : Thread nD τ))) (f4 : Buf (Elt F) (arg4.view.loc (c : Thread nD τ)))

/-- The four facts the loop keeps, under names of their own. -/
@[irreducible] def Has6 (arg6 : Memref sig .tc .vmem S1x1024 .f32) (f6 : Buf (Elt F) (arg6.view.loc (c : Thread nD τ))) (x : Vec F S1x1024 .f32) : Prop :=
  arg6.view.read (Elt F) f6 = x
@[irreducible] def Has7 (arg7 : Memref sig .tc .vmem S144x1024 .f32) (f7 : Buf (Elt F) (arg7.view.loc (c : Thread nD τ))) (x : Vec F S144x1024 .f32) : Prop :=
  arg7.view.read (Elt F) f7 = x
@[irreducible] def Has8 (arg8 : Memref sig .tc .vmem S2x512x1024 .f32) (f8 : Buf (Elt F) (arg8.view.loc (c : Thread nD τ))) (x : Vec F S1x512x1024 .f32) : Prop :=
  View.ld (arg8.view.read (Elt F) f8) slot0 = x
@[irreducible] def Has9 (arg9 : Memref sig .tc .vmem S2x1x1024 .f32) (f9 : Buf (Elt F) (arg9.view.loc (c : Thread nD τ))) (x : Vec F S1x1x1024 .f32) : Prop :=
  View.ld (arg9.view.read (Elt F) f9) top0 = x

/-- Before trip `j` the four working buffers hold the recursion's state after `8 j` chunks. -/
def invAt (j : ℕ) : sProp 𝕄 := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (∃ f6, (arg6.view.loc (c : Thread nD τ) ↦[arg6.view.set]{fullShare} f6) ∗ ⌜Has6 c arg6 f6 (mx (arg2.view.read (Elt F) f2) (arg3.view.read (Elt F) f3) (8 * j))⌝)
    ∗ (∃ f7, (arg7.view.loc (c : Thread nD τ) ↦[arg7.view.set]{fullShare} f7) ∗ ⌜Has7 c arg7 f7 (acc (arg2.view.read (Elt F) f2) (arg3.view.read (Elt F) f3) (arg4.view.read (Elt F) f4) (8 * j))⌝)
    ∗ (∃ f8, (arg8.view.loc (c : Thread nD τ) ↦[arg8.view.set]{fullShare} f8) ∗ ⌜Has8 c arg8 f8 (scores (arg2.view.read (Elt F) f2) (arg3.view.read (Elt F) f3) (8 * j))⌝)
    ∗ (∃ f9, (arg9.view.loc (c : Thread nD τ) ↦[arg9.view.set]{fullShare} f9) ∗ ⌜Has9 c arg9 f9 (tops (arg2.view.read (Elt F) f2) (arg3.view.read (Elt F) f3) (8 * j))⌝))

set_option maxHeartbeats 4000000 in
theorem inv_step (k : Fin k0_t1_loop.trips) :
    invAt c arg2 arg3 arg4 arg6 arg7 arg8 arg9 f2 f3 f4 k.val
      ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 k ())
          fun _ => invAt c arg2 arg3 arg4 arg6 arg7 arg8 arg9 f2 f3 f4 (k.val + 1) := by
  unfold invAt
  iintro ⟨H2, H3, H4, ⟨%f6, H6, %h6⟩, ⟨%f7, H7, %h7⟩, ⟨%f8, H8, %h8⟩, ⟨%f9, H9, %h9⟩⟩
  unfold Has6 at h6; unfold Has7 at h7; unfold Has8 at h8; unfold Has9 at h9
  iapply (wp_wand_r Idealize.ShloMosaic.frame (wpE (defs₀ (F := F)) 𝒱 (c : Thread nD τ) bd) E)
  isplitl [H2 H3 H4 H6 H7 H8 H9]
  · iapply (tripRun (F := F) 𝒱 c bd E i arg2 harg2 arg3 harg3 arg4 harg4 arg5 harg5 arg6 harg6 arg7 harg7 arg8 harg8 arg9 harg9 f2 f3 f4 f6 f7 f8 f9 k).2.2.2.2
    isplitl [H2]; · iexact H2
    isplitl [H3]; · iexact H3
    isplitl [H4]; · iexact H4
    isplitl [H6]; · iexact H6
    isplitl [H7]; · iexact H7
    isplitl [H8]; · iexact H8
    iexact H9
  · iintro %_ ⟨H2, H3, H4, H6, H7, H8, H9⟩
    isplitl [H2]; · iexact H2
    isplitl [H3]; · iexact H3
    isplitl [H4]; · iexact H4
    isplitl [H6]
    · iexists _; isplitl [H6]; · iexact H6
      ipureintro; unfold Has6; exact tripRun_6 𝒱 c bd E i arg2 harg2 arg3 harg3 arg4 harg4 arg5 harg5 arg6 harg6 arg7 harg7 arg8 harg8 arg9 harg9 f2 f3 f4 f6 f7 f8 f9 k h6 h7 h8 h9
    isplitl [H7]
    · iexists _; isplitl [H7]; · iexact H7
      ipureintro; unfold Has7; exact tripRun_7 𝒱 c bd E i arg2 harg2 arg3 harg3 arg4 harg4 arg5 harg5 arg6 harg6 arg7 harg7 arg8 harg8 arg9 harg9 f2 f3 f4 f6 f7 f8 f9 k h6 h7 h8 h9
    isplitl [H8]
    · iexists _; isplitl [H8]; · iexact H8
      ipureintro; unfold Has8; exact tripRun_8 𝒱 c bd E i arg2 harg2 arg3 harg3 arg4 harg4 arg5 harg5 arg6 harg6 arg7 harg7 arg8 harg8 arg9 harg9 f2 f3 f4 f6 f7 f8 f9 k h6 h7 h8 h9
    iexists _; isplitl [H9]; · iexact H9
    ipureintro; unfold Has9; exact tripRun_9 𝒱 c bd E i arg2 harg2 arg3 harg3 arg4 harg4 arg5 harg5 arg6 harg6 arg7 harg7 arg8 harg8 arg9 harg9 f2 f3 f4 f6 f7 f8 f9 k h6 h7 h8 h9

set_option warn.classDefReducibility false in
/-- The loop goes through by `invAt`. -/
def loopInv : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9) where
  inv j _ := invAt c arg2 arg3 arg4 arg6 arg7 arg8 arg9 f2 f3 f4 j
  step k _ := inv_step 𝒱 c bd E i arg2 harg2 arg3 harg3 arg4 harg4 arg5 harg5 arg6 harg6 arg7 harg7 arg8 harg8 arg9 harg9 f2 f3 f4 k

theorem out_of (f5 : Buf (Elt F) (arg5.view.loc (c : Thread nD τ))) (f7 : Buf (Elt F) (arg7.view.loc (c : Thread nD τ)))
    (Q : Vec F S1x1024x256 .bf16) (K : Vec F S1x8192x256 .bf16) (V : Vec F S1x32x144x256 .bf16) (h : Has7 c arg7 f7 (acc Q K V (8 * k0_t1_loop.trips))) :
    arg5.view.read (Elt F) (arg5.view.writes (Elt F) f5 [⟨Rect.unit (s := S1024x128) ![0, 0] S1024x128.size inb_S1024x128_S1024x128_0_0,
      k0_pay1 (k0_pay71 (arg7.view.readAt (Elt F) (Rect.unit (s := S144x1024) ![0, 0] S144x1024.size inb_S144x1024_S144x1024_0_0).toLoadRect f7))
        (k0_pay72 (arg7.view.readAt (Elt F) (Rect.unit (s := S144x1024) ![0, 0] S144x1024.size inb_S144x1024_S144x1024_0_0).toLoadRect f7))⟩])
      = out Q K V := by
  have e : arg7.view.readAt (Elt F) (Rect.unit (s := S144x1024) ![0, 0] S144x1024.size inb_S144x1024_S144x1024_0_0).toLoadRect f7
      = arg7.view.read (Elt F) f7 := View.ld_unit_zero (S := S144x1024) z2 _ _
  unfold Has7 at h
  rw [whole_hit _ _ z2, e, h]; rfl

set_option maxHeartbeats 4000000 in
/-- A point's run: the inputs are kept, the result's block is `out` of them. -/
theorem point (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (Kp : PUnit → sProp 𝕄) :
    iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))
      ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
        ∗ (∃ f, (arg5.view.loc (c : Thread nD τ) ↦[arg5.view.set]{fullShare} f) ∗ ⌜arg5.view.read (Elt F) f = out (arg2.view.read (Elt F) f2) (arg3.view.read (Elt F) f3) (arg4.view.read (Elt F) f4)⌝)
        ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ Kp ⟨⟩))
      ⊢ wp Idealize.ShloMosaic.frame (wpE (defs₀ (F := F)) 𝒱 (c : Thread nD τ) bd) E (cc0_flash (F := F) i arg2 harg2 arg3 harg3 arg4 harg4 arg5 harg5 arg6 harg6 arg7 harg7 arg8 harg8 arg9 harg9) Kp := by
  have key0 : arg3.view.readAt (Elt F) (Rect.unit (s := S1x8192x256) ![0, 0, 0] S1x512x256.size inb_S1x8192x256_S1x512x256_0_0_0).toLoadRect f3
      = keys (arg3.view.read (Elt F) f3) 0 := ld_unit_congr (arg3.view.read (Elt F) f3) rfl _ _
  have query0 : arg2.view.readAt (Elt F) (Rect.unit (s := S1x1024x256) ![0, 0, 0] S1x1024x256.size inb_S1x1024x256_S1x1024x256_0_0_0).toLoadRect f2
      = arg2.view.read (Elt F) f2 := View.ld_unit_zero (S := S1x1024x256) z3 _ _
  let L := loopInv 𝒱 c bd E i arg2 harg2 arg3 harg3 arg4 harg4 arg5 harg5 arg6 harg6 arg7 harg7 arg8 harg8 arg9 harg9 f2 f3 f4
  have e6 : Has6 c arg6 (arg6.view.writes (Elt F) arg6.view.junk
      [⟨Rect.unit (s := S1x1024) ![0, 0] S1x1024.size inb_S1x1024_S1x1024_0_0, k0_pay64 (F := F)⟩])
      (mx (arg2.view.read (Elt F) f2) (arg3.view.read (Elt F) f3) (8 * 0)) := by
    unfold Has6; exact whole_hit _ _ z2 _ _ _
  have e7 : Has7 c arg7 (arg7.view.writes (Elt F) arg7.view.junk
      [⟨Rect.unit (s := S144x1024) ![0, 0] S144x1024.size inb_S144x1024_S144x1024_0_0, k0_pay65 (F := F)⟩])
      (acc (arg2.view.read (Elt F) f2) (arg3.view.read (Elt F) f3) (arg4.view.read (Elt F) f4) (8 * 0)) := by
    unfold Has7; exact whole_hit _ _ z2 _ _ _
  have e8 : Has8 c arg8 (arg8.view.writes (Elt F) f8
      [⟨Rect.unit (s := S2x512x1024) ![0, 0, 0] S1x512x1024.size inb_S2x512x1024_S1x512x1024_0_0_0,
        k0_pay67 (keys (arg3.view.read (Elt F) f3) 0) (arg2.view.read (Elt F) f2)⟩])
      (scores (arg2.view.read (Elt F) f2) (arg3.view.read (Elt F) f3) (8 * 0)) := by
    unfold Has8; rw [read_hit]; rfl
  have e9 : Has9 c arg9 (arg9.view.writes (Elt F) f9
      [⟨Rect.unit (s := S2x1x1024) ![0, 0, 0] S1x1x1024.size inb_S2x1x1024_S1x1x1024_0_0_0,
        k0_pay68 (keys (arg3.view.read (Elt F) f3) 0) (arg2.view.read (Elt F) f2)⟩])
      (tops (arg2.view.read (Elt F) f2) (arg3.view.read (Elt F) f3) (8 * 0)) := by
    unfold Has9; rw [read_hit]; rfl
  simp only [cc0_flash_eq_skeleton]; unfold cc0_flash_skel
  iintro ⟨⟨H2, H3, H4, H5, H6, H7, H8, H9⟩, Hk⟩
  sl_exec
  sl_step
  iapply Hk
  isplitl [H2]; · iexact H2
  isplitl [H3]; · iexact H3
  isplitl [H4]; · iexact H4
  isplitl [H5]
  · iexists _; isplitl [H5]; · iexact H5
    ipureintro; exact out_of c arg5 arg7 f5 _ _ _ _ hL6
  isplitl [H6]; · iexists _; iexact H6
  isplitl [H7]; · iexists _; iexact H7
  isplitl [H8]; · iexists _; iexact H8
  iexists _; iexact H9
end Loop

end Cert.KernelIdeal.Flash

end
-- ==== Proof.Launch.lean ====
/- The kernel's launch: every grid point keeps its inputs and leaves `out` of them in the result's block. -/
module

public import proofs.«01_k».proof.Proof.Point
public import proofs.«01_k».proof.Proof.Gen.KernelIdeal.Frame
public import Idealize.ShloMosaic.Lib.Pipeline.KitQuiescent
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held outright is held through its whole view. -/
theorem held (c : Dev nD) (b : Ref sig .tc) (f : Buf (Elt F) ((c : Thread nD τ).loc b)) :
    (iprop(((c : Thread nD τ).loc b) ↦{fullShare} f) : sProp 𝕄)
      = iprop((Memref.whole b).view.loc (c : Thread nD τ) ↦[(Memref.whole b).view.set]{fullShare} f) := by
  have e : (Memref.whole b).view.set = Finset.univ := View.set_whole _
  rw [e]

set_option maxHeartbeats 1000000 in
/-- A point's run, the working buffers at whatever contents they hold. -/
theorem sound (𝒱 : Variants) (c : Dev nD) (bd : Option 𝒱.V) (E : Set ℕ) (i : grid0.Coords) (arg2 : Memref sig .tc .vmem S1x1024x256 .bf16) (harg2 : arg2.IsWhole)
    (arg3 : Memref sig .tc .vmem S1x8192x256 .bf16) (harg3 : arg3.IsWhole) (arg4 : Memref sig .tc .vmem S1x32x144x256 .bf16) (harg4 : arg4.IsWhole)
    (arg5 : Memref sig .tc .vmem S1024x128 .f32) (harg5 : arg5.IsWhole) (Q K V) (Kp : PUnit → sProp 𝕄) :
    iprop(Pipeline.ΦA spec0 c ∗ owns (c : Thread nD τ) arg2 fullShare Q ∗ owns (c : Thread nD τ) arg3 fullShare K ∗ owns (c : Thread nD τ) arg4 fullShare V
        ∗ (∃ d, owns (c : Thread nD τ) arg5 fullShare d)
        ∗ (iprop(Pipeline.ΦA spec0 c ∗ owns (c : Thread nD τ) arg2 fullShare Q ∗ owns (c : Thread nD τ) arg3 fullShare K ∗ owns (c : Thread nD τ) arg4 fullShare V
            ∗ owns (c : Thread nD τ) arg5 fullShare (out Q K V)) -∗ Kp ⟨⟩))
      ⊢ wp Idealize.ShloMosaic.frame (wpE (defs₀ (F := F)) 𝒱 (c : Thread nD τ) bd) E (cc0_flash (F := F) i arg2 harg2 arg3 harg3 arg4 harg4 arg5 harg5
          (Memref.whole cc0_scratch0) (Memref.isWhole_whole _) (Memref.whole cc0_scratch1) (Memref.isWhole_whole _)
          (Memref.whole cc0_scratch2) (Memref.isWhole_whole _) (Memref.whole cc0_scratch3) (Memref.isWhole_whole _)) Kp := by
  unfold owns Pipeline.ΦA
  rw [scopedRest0_eq]
  simp only [held]
  iintro ⟨⟨⟨⟨%g0, G0⟩, ⟨%g1, G1⟩, ⟨%g2, G2⟩, ⟨%g3, G3⟩⟩, HR⟩, ⟨%f2, %h2, H2⟩, ⟨%f3, %h3, H3⟩, ⟨%f4, %h4, H4⟩, ⟨%d5, %f5, -, H5⟩, Hk⟩
  subst h2; subst h3; subst h4
  iapply (point 𝒱 c bd E i arg2 harg2 arg3 harg3 arg4 harg4 arg5 harg5 (Memref.whole cc0_scratch0) (Memref.isWhole_whole _) (Memref.whole cc0_scratch1)
    (Memref.isWhole_whole _) (Memref.whole cc0_scratch2) (Memref.isWhole_whole _) (Memref.whole cc0_scratch3) (Memref.isWhole_whole _) f2 f3 f4 f5 g0 g1 g2 g3 Kp)
  isplitl [H2 H3 H4 H5 G0 G1 G2 G3]
  · isplitl [H2]; · iexact H2
    isplitl [H3]; · iexact H3
    isplitl [H4]; · iexact H4
    isplitl [H5]; · iexact H5
    isplitl [G0]; · iexact G0
    isplitl [G1]; · iexact G1
    isplitl [G2]; · iexact G2
    iexact G3
  · iintro ⟨H2, H3, H4, ⟨%o, H5, %ho⟩, G0, G1, G2, G3⟩
    iapply Hk
    isplitl [G0 G1 G2 G3 HR]
    · isplitl [G0 G1 G2 G3]
      · isplitl [G0]; · iexact G0
        isplitl [G1]; · iexact G1
        isplitl [G2]; · iexact G2
        iexact G3
      · iexact HR
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists o; isplitr; · ipureintro; exact ho
    iexact H5

/-- The launch's proof data: the inputs' blocks stay, the result's block becomes `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t)
    | ⟨_ + 4, h⟩ => absurd h (Nat.not_lt.2 (Nat.le_add_left _ _))
  Φ _ := Pipeline.ΦA spec0 c
  q _ := fullShare
  owed _ := 0

variable (c : Dev nD) (t : Fin cfg0.N)
theorem A_eq (w : Fin cfg0.W) : (dats m 0 c).A w = V m c (Pipeline.arrRef spec0 w) := rfl
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = out (iblk m c 0 t) (iblk m c 1 t) (iblk m c 2 t) := by dsimp only [dats]
theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d

/-- What the body finds at a point, and what it leaves. -/
def bodyPre : sProp 𝕄 := iprop((dats m 0 c).Φ t.castSucc ∗ (dats m 0 c).owesAt () t.castSucc
  ∗ (∃ d, owns (c : Thread nD τ) (st0_0 t) fullShare ((dats m 0 c).before 0 t d)) ∗ (∃ d, owns (c : Thread nD τ) (st0_1 t) fullShare ((dats m 0 c).before 1 t d))
  ∗ (∃ d, owns (c : Thread nD τ) (st0_2 t) fullShare ((dats m 0 c).before 2 t d)) ∗ (∃ d, owns (c : Thread nD τ) (st0_3 t) fullShare ((dats m 0 c).before 3 t d)))
def bodyPost : sProp 𝕄 := iprop((dats m 0 c).Φ t.succ ∗ (dats m 0 c).owesAt () t.succ
  ∗ owns (c : Thread nD τ) (st0_0 t) fullShare ((dats m 0 c).after 0 t) ∗ owns (c : Thread nD τ) (st0_1 t) fullShare ((dats m 0 c).after 1 t)
  ∗ owns (c : Thread nD τ) (st0_2 t) fullShare ((dats m 0 c).after 2 t) ∗ owns (c : Thread nD τ) (st0_3 t) fullShare ((dats m 0 c).after 3 t))

set_option maxHeartbeats 1000000 in
theorem sound_body : bodyPre m c t ⊢ wp Idealize.ShloMosaic.frame (wpE (defs₀ (F := F)) Variants.none (c : Thread nD τ) none) Set.univ (bodyAt0 (F := F) t) (fun _ => bodyPost m c t) := by
  unfold bodyPre bodyPost
  simp only [before0_0, before0_1, before0_2]
  rw [show (dats m 0 c).Φ t.succ = (dats m 0 c).Φ t.castSucc from rfl, show (dats m 0 c).owesAt () t.succ = (dats m 0 c).owesAt () t.castSucc from rfl,
    after0_0, after0_1, after0_2, after0_3]
  rw [show (dats m 0 c).Φ t.castSucc = Pipeline.ΦA spec0 c from rfl]
  iintro ⟨HΦ, Ho, ⟨%d0, H0⟩, ⟨%d1, H1⟩, ⟨%d2, H2⟩, ⟨%d3, H3⟩⟩
  iapply (sound Variants.none c none Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (iblk m c 0 t) (iblk m c 1 t) (iblk m c 2 t))
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · iexact H0
  isplitl [H1]; · iexact H1
  isplitl [H2]; · iexact H2
  iexact H3

theorem body_obligation : BodyObligation (dats (F := F) m 0 c) (defs₀ (F := F)) Variants.none () Set.univ := fun t => by
  rw [bigSep_W0, bigSep_W0]; exact sound_body m c t

set_option backward.isDefEq.respectTransparency.types false in
/-- The whole program runs: the arrays end at the launch's, all else as before it, every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (Q' := fun r => Pipeline.FramePost cfgs (dats m) 0 (V m) r ∧ r.2.sem = fun _ => 0)
    (hbody := fun c => (body_obligation m c).loose) (hshare := fun c => (dats m 0 c).share_full fun _ => rfl)
    (howed := fun _ _ => rfl) (V := V m) (hmain := hmain m Variants.none) (hA := fun _ _ => rfl) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Flash

end
-- ==== Proof.Frames.lean ====
/- Each program runs, leaves its arguments as they were and every semaphore at zero. -/
module

public import proofs.«01_k».proof.Defs
public import proofs.«01_k».proof.Proof.Gen.Kernel
public import proofs.«01_k».proof.Proof.Gen.ReferenceIdeal.Run
public import proofs.«01_k».proof.Proof.Launch
public import Idealize.ShloMosaic.Adequacy
public import Idealize.ShloMosaic.Init

@[expose] public section

noncomputable section

namespace Cert.KernelIdeal.Flash

open Idealize.ShloMosaic Idealize.ShloMosaic.TcCoe Idealize.SL.Sem Cert.KernelIdeal.Gen

variable {F : FTy → Type} [FloatOps F]

/-- The run, read at the result and at the arguments. -/
theorem run_post (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v16) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

/-- The run, read at the arguments alone. -/
theorem frame_post (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_post m ρ)

end Cert.KernelIdeal.Flash

namespace Cert.Proof

open Idealize.ShloMosaic Idealize.SL.Sem

theorem frame_kernelIdeal : Cert.quiescent_KernelIdeal := fun m ρ _ => Cert.KernelIdeal.Flash.frame_post (F := Ideal) m ρ

/-- The two kernel programs have the same text: their tables of bodies are one. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l p
  match l, p with
  | 0, (t, s) => rfl

theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

/-- So the one run serves both. -/
theorem frame_kernel : Cert.quiescent_Kernel := fun m ρ _ => by
  have h := Cert.KernelIdeal.Flash.frame_post (F := Bits) m ρ
  rw [← defs_eq] at h
  exact h

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.Proof

end
-- ==== Proof.Operands.lean ====
/- The kernel's operands, as the host operations before the launch make them, read at an index. -/
module

public import proofs.«01_k».proof.Proof.Launch
public import Idealize.ShloMosaic.Lib.Pointwise
public import Idealize.ShloMosaic.Lib.Claim

@[expose] public section

set_option maxRecDepth 16384

noncomputable section

namespace Cert.KernelIdeal.Flash

open Idealize.ShloMosaic Idealize.ShloMosaic.TcCoe Idealize.SL.Sem Cert.KernelIdeal.Gen

variable (m : (ℓ : Loc nD τ sig) → Buf (Elt Ideal) ℓ) (c : Dev nD)

/-- The scale the kernel's queries carry. -/
def scale : EReal := Ideal.div (Ideal.ofBits .f32 0x3D93CD3A#32) (Ideal.log (Ideal.ofBits .f32 0x40000000#32))

theorem sitofp_zero : (FloatOps.sitofp (F := Ideal) FTy.f32 0#32 : EReal) = 0 := by
  show (((0#32).toInt : ℝ) : EReal) = 0
  simp

/-- The program's arguments. -/
def argQ : FVec Ideal S8192x6x192 .f32 := m ((c : Thread nD τ).loc main_arg0)
def argK : FVec Ideal S8192x6x192 .f32 := m ((c : Thread nD τ).loc main_arg1)
def argV : FVec Ideal S8192x6x128 .f32 := m ((c : Thread nD τ).loc main_arg2)

/-- The launch's operands. -/
def opQ : FVec Ideal S6x8192x256 .bf16 := V m c main_v11
def opK : FVec Ideal S6x8192x256 .bf16 := V m c main_v14
def opV : FVec Ideal S6x32x144x256 .bf16 := V m c main_v15

theorem k_at (h : Fin 6) (i : Fin 8192) (x : Fin 256) :
    opK m c (ix3 h i x) = if hx : x.val < 192 then argK m c (ix3 i h ⟨x.val, hx⟩) else 0 := by
  unfold opK V hostOps0 hostOps0_1 hostOps0_2 hostOps0_3 hostOps0_4
  simp only [List.flatten_cons, List.flatten_nil, List.cons_append, List.nil_append]
  after_results
  simp only [StableHlo.TRef.ofBuf_toBuf]
  unfold StableHlo.TRef.toBuf StableHlo.TRef.ofBuf
  simp only [cast_eq]
  unfold argK
  pointwise [scale]
  rw [sitofp_zero]

theorem q_at (h : Fin 6) (i : Fin 8192) (x : Fin 256) :
    opQ m c (ix3 h i x) = if hx : x.val < 192 then argQ m c (ix3 i h ⟨x.val, hx⟩) * scale else 0 := by
  unfold opQ V hostOps0 hostOps0_1 hostOps0_2 hostOps0_3 hostOps0_4
  simp only [List.flatten_cons, List.flatten_nil, List.cons_append, List.nil_append]
  after_results
  simp only [StableHlo.TRef.ofBuf_toBuf]
  unfold StableHlo.TRef.toBuf StableHlo.TRef.ofBuf
  simp only [cast_eq]
  unfold argQ
  pointwise [scale]
  rw [sitofp_zero]

/-- The values in blocks of 256 columns, over a row of ones and fifteen of zeros. -/
def cat (a : FVec Ideal S6x32x128x256 .f32) (b : FVec Ideal S6x32x1x256 .f32) (d : FVec Ideal S6x32x15x256 .f32) : FVec Ideal S6x32x144x256 .bf16 :=
  truncf .bf16 (concatenate S6x32x144x256 2 [⟨S6x32x128x256, a⟩, ⟨S6x32x1x256, b⟩, ⟨S6x32x15x256, d⟩]
    concatenates_S6x32x128x256_S6x32x1x256_S6x32x15x256_S6x32x144x256_d2) bitsLt_bf16_f32

theorem cat_congr {a a' : FVec Ideal S6x32x128x256 .f32} {b b' : FVec Ideal S6x32x1x256 .f32} {d d' : FVec Ideal S6x32x15x256 .f32}
    (ha : a = a') (hb : b = b') (hd : d = d') : cat a b d = cat a' b' d' := by
  rw [ha, hb, hd]

theorem opV_eq : ∃ d, opV m c = cat
    (transpose S6x32x128x256 [2, 0, 3, 1] (shapeCast S32x256x6x128 (argV m c) shapeCasts_S8192x6x128_S32x256x6x128) transposes_S32x256x6x128_S6x32x128x256_2_0_3_1)
    (broadcastInDim S6x32x1x256 ![] bcast_S_S6x32x1x256 (constant S_ .f32 0x3F800000#32)) d := by
  refine ⟨broadcastInDim S6x32x15x256 ![] bcast_S_S6x32x15x256 (constant S_ .f32 0x00000000#32), ?_⟩
  unfold opV argV V hostOps0 hostOps0_1 hostOps0_2 hostOps0_3 hostOps0_4
  simp only [List.flatten_cons, List.flatten_nil, List.cons_append, List.nil_append]
  after_results
  refine cat_congr ?_ ?_ ?_
  all_goals dsimp only [Matrix.cons_val]
  all_goals rfl

theorem v_at (h : Fin 6) (n : Fin 32) (d : Fin 144) (x : Fin 256) (hd : d.val < 128) :
    opV m c (ix4 h n d x) = argV m c (ix3 ⟨256 * n.val + x.val, by omega⟩ h ⟨d.val, hd⟩) := by
  obtain ⟨z, e⟩ := opV_eq m c
  rw [e]
  pointwise [cat]
  rw [dif_pos hd]
  congr 2
  exact Fin.ext (by show n.val * 256 + x.val = 256 * n.val + x.val; omega)

theorem ones_at (h : Fin 6) (n : Fin 32) (x : Fin 256) : opV m c (ix4 h n 128 x) = 1 := by
  obtain ⟨z, e⟩ := opV_eq m c
  rw [e]
  pointwise [cat]
  done

end Cert.KernelIdeal.Flash

end
-- ==== Proof.Online.lean ====
/- Softmax over the extended reals, a chunk of 512 keys at a time: the running maximum may be any real, since a change of
   it rescales what was summed so far; and the quotient of the weighted sum by the sum of the weights does not depend on it. -/
module

public import Idealize.ShloMosaic.PureOps
public import Idealize.ShloMosaic.Lib.IdealHost
public import Mathlib.Algebra.BigOperators.Fin
public import Mathlib.Analysis.SpecialFunctions.Pow.Real

@[expose] public section

noncomputable section

namespace Cert.Online

open Idealize.ShloMosaic

/-- A nonnegative real goes into a sum of extended reals. -/
theorem coe_mul_sum {ι : Type} (c : ℝ) (hc : 0 ≤ c) (t : Finset ι) (f : ι → EReal) :
    (c : EReal) * ∑ k ∈ t, f k = ∑ k ∈ t, (c : EReal) * f k := by
  classical
  induction t using Finset.induction_on with
  | empty => simp
  | insert a t ha ih =>
    rw [Finset.sum_insert ha, Finset.sum_insert ha,
      EReal.left_distrib_of_nonneg_of_ne_top (EReal.coe_nonneg.2 hc) (EReal.coe_ne_top c), ih]

/-- A sum of reals is a real. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem exp2_sub (a b : ℝ) : Ideal.exp2 ((a : EReal) - b) = (((2 : ℝ) ^ (a - b) : ℝ) : EReal) := by
  rw [← EReal.coe_sub, Ideal.exp2_coe]; rfl

/-- The chunked recursion is the sum over all the keys seen, at the running maximum. -/
theorem online (s : ℕ → ℝ) (v : ℕ → EReal) (M A : ℕ → EReal) (N : ℕ) (hM : ∀ n < N, ∃ a : ℝ, M (n + 1) = a) (hA0 : A 0 = 0)
    (hA : ∀ n < N, A (n + 1) = Ideal.exp2 (M n - M (n + 1)) * A n
      + (∑ x : Fin 256, v (512 * n + x.val) * Ideal.exp2 (s (512 * n + x.val) - M (n + 1))
        + ∑ x : Fin 256, v (512 * n + (256 + x.val)) * Ideal.exp2 (s (512 * n + (256 + x.val)) - M (n + 1)))) :
    ∀ n ≤ N, A n = ∑ k ∈ Finset.range (512 * n), v k * Ideal.exp2 (s k - M n) := by
  intro n
  induction n with
  | zero => intro _; simpa using hA0
  | succ n ih =>
    intro hn
    obtain ⟨a, ha⟩ := hM n hn
    have hs : Ideal.exp2 (M n - M (n + 1)) * A n = ∑ k ∈ Finset.range (512 * n), v k * Ideal.exp2 (s k - M (n + 1)) := by
      cases n with
      | zero => rw [hA0]; simp
      | succ n =>
        obtain ⟨b, hb⟩ := hM n (by omega)
        rw [ih (by omega), ha, hb, exp2_sub, coe_mul_sum _ (Real.rpow_nonneg (by norm_num) _)]
        refine Finset.sum_congr rfl fun k _ => ?_
        rw [exp2_sub, exp2_sub, mul_left_comm, ← EReal.coe_mul, ← Real.rpow_add (by norm_num)]
        congr 3; ring
    rw [hA n hn, hs, show 512 * (n + 1) = 512 * n + (256 + 256) from by ring, Finset.sum_range_add, Finset.sum_range_add]
    simp only [Finset.sum_range]

/-- The quotient of the kernel's sums is the reference's sum of quotients: powers of two of scores over `log 2` against
    exponentials of the scores, each less its own real. -/
theorem quotient {N : ℕ} (hN : 0 < N) (x s : Fin N → ℝ) (v : Fin N → EReal) (a b : ℝ) (hs : ∀ k, s k * Real.log 2 = x k) :
    Ideal.div (∑ k, v k * Ideal.exp2 ((s k : EReal) - a)) (∑ k, 1 * Ideal.exp2 ((s k : EReal) - a))
      = ∑ k, v k * Ideal.div (Ideal.exp ((x k : EReal) - b)) (∑ j, Ideal.exp ((x j : EReal) - b)) := by
  haveI : Nonempty (Fin N) := ⟨⟨0, hN⟩⟩
  set c : ℝ := Real.exp (b - a * Real.log 2) with hc
  have hcpos : 0 < c := Real.exp_pos _
  have hw : ∀ k, Ideal.exp2 ((s k : EReal) - a) = ((c * Real.exp (x k - b) : ℝ) : EReal) := fun k => by
    rw [exp2_sub, Real.rpow_def_of_pos (by norm_num), hc, ← Real.exp_add]
    congr 2
    rw [← hs k]; ring
  have he : ∀ k, Ideal.exp ((x k : EReal) - b) = ((Real.exp (x k - b) : ℝ) : EReal) := fun k => by
    rw [← EReal.coe_sub, Ideal.exp_coe]
  have hpos : 0 < ∑ k, Real.exp (x k - b) := Finset.sum_pos (fun k _ => Real.exp_pos _) Finset.univ_nonempty
  simp only [hw, he, one_mul]
  rw [← coe_sum, ← coe_sum, ← Finset.mul_sum, Ideal.div_coe (mul_pos hcpos hpos).ne', mul_comm,
    coe_mul_sum _ (by positivity)]
  refine Finset.sum_congr rfl fun k _ => ?_
  rw [Ideal.div_coe hpos.ne', mul_left_comm, ← EReal.coe_mul, ← EReal.coe_mul]
  congr 2
  field_simp

/-- A fold of `max` from minus infinity over reals is a real, when there is something to fold over. -/
theorem fold_max_real {ι : Type} (t : Finset ι) (ht : t.Nonempty) (f : ι → ℝ) :
    ∃ a : ℝ, t.fold max (⊥ : EReal) (fun k => (f k : EReal)) = a := by
  classical
  induction ht using Finset.Nonempty.cons_induction with
  | singleton i => exact ⟨f i, by simp⟩
  | cons i t hi _ ih =>
    obtain ⟨a, ha⟩ := ih
    exact ⟨max (f i) a, by rw [Finset.fold_cons, ha]; exact (EReal.coe_strictMono.monotone.map_max).symm⟩

end Cert.Online

end
-- ==== Proof.Column.lean ====
/- The recursion of one grid point read at one query and one value row. -/
module

public import proofs.«01_k».proof.Proof.Steps
public import proofs.«01_k».proof.Proof.Online
public import Idealize.ShloMosaic.Lib.Pointwise
public import Idealize.ShloMosaic.Lib.Claim

@[expose] public section

set_option maxRecDepth 16384

noncomputable section

namespace Cert.KernelIdeal.Flash

open Idealize.ShloMosaic Idealize.ShloMosaic.TcCoe Idealize.SL.Sem Cert.KernelIdeal.Gen

theorem ofBits_bot : Ideal.ofBits FTy.f32 0xFF800000#32 = (⊥ : EReal) := by
  simp [Ideal.ofBits, Ideal.ieee]

variable (Q : FVec Ideal S1x1024x256 .bf16) (K : FVec Ideal S1x8192x256 .bf16) (V : FVec Ideal S1x32x144x256 .bf16)

theorem pay3_at (X : FVec Ideal S1x512x256 .bf16) (k : Fin 512) (r : Fin 1024) :
    k0_pay3 (F := Ideal) X Q (ix3 0 k r) = ∑ x : Fin 256, X (ix3 0 k x) * Q (ix3 0 r x) := by
  pointwise [k0_pay3, k0_pay2]

theorem pay4_at (X : FVec Ideal S1x512x256 .bf16) (r : Fin 1024) :
    k0_pay4 (F := Ideal) X Q (ix3 0 0 r)
      = Finset.univ.fold max ⊥ (fun k : Fin 512 => ∑ x : Fin 256, X (ix3 0 k x) * Q (ix3 0 r x)) := by
  pointwise [k0_pay4, k0_pay2]
  simp only [ofBits_bot]

theorem pay5_at (a : FVec Ideal S1x1024 .f32) (b : FVec Ideal S1x1x1024 .f32) (r : Fin 1024) :
    k0_pay9 (F := Ideal) (k0_pay5 a b) (ix2 0 r) = max (a (ix2 0 r)) (b (ix3 0 0 r)) := by
  pointwise [k0_pay9, k0_pay5]

theorem pay8_at (a : FVec Ideal S1x1024 .f32) (b : FVec Ideal S1x1x1024 .f32) (s : FVec Ideal S1x512x1024 .f32)
    (u w : FVec Ideal S1x1x144x256 .bf16) (z : FVec Ideal S144x1024 .f32) (d : Fin 144) (r : Fin 1024) :
    k0_pay8 (F := Ideal) (k0_pay6 a b s) (k0_pay7 a b) u w z (ix2 d r)
      = Ideal.exp2 (a (ix2 0 r) - max (a (ix2 0 r)) (b (ix3 0 0 r))) * z (ix2 d r)
        + (∑ x : Fin 256, u (ix4 0 0 d x) * Ideal.exp2 (s (ix3 0 ⟨x.val, by omega⟩ r) - max (a (ix2 0 r)) (b (ix3 0 0 r)))
          + ∑ x : Fin 256, w (ix4 0 0 d x) * Ideal.exp2 (s (ix3 0 ⟨256 + x.val, by omega⟩ r) - max (a (ix2 0 r)) (b (ix3 0 0 r)))) := by
  pointwise [k0_pay8, k0_pay7, k0_pay6, k0_pay5]
  rfl

theorem pay1_at (z : FVec Ideal S144x1024 .f32) (r : Fin 1024) (d : Fin 128) :
    k0_pay1 (F := Ideal) (k0_pay71 z) (k0_pay72 z) (ix2 r d) = Ideal.div (z (ix2 ⟨d.val, by omega⟩ r)) (z (ix2 128 r)) := by
  pointwise [k0_pay1, k0_pay71, k0_pay72]

theorem mx_zero_at (r : Fin 1024) : mx (F := Ideal) Q K 0 (ix2 0 r) = ⊥ := by
  pointwise [mx, k0_pay64]
  exact ofBits_bot

theorem acc_zero_at (d : Fin 144) (r : Fin 1024) : acc (F := Ideal) Q K V 0 (ix2 d r) = 0 := by
  pointwise [acc, k0_pay65]

theorem keys_at (n : ℕ) (hn : n < 16) (k : Fin 512) (x : Fin 256) :
    keys (F := Ideal) K n (ix3 0 k x) = K (ix3 0 ⟨512 * n + k.val, by omega⟩ x) := by
  pointwise [keys]
  simp only [Nat.mod_eq_of_lt hn]

theorem vals_at (n : ℕ) (hn : n < 32) (d : Fin 144) (x : Fin 256) :
    vals (F := Ideal) V n (ix4 0 0 d x) = V (ix4 0 ⟨n, hn⟩ d x) := by
  pointwise [vals]
  simp only [Nat.mod_eq_of_lt hn]

/-- The score of key `k` at query `r`. -/
def score (k : Fin 8192) (r : Fin 1024) : EReal := ∑ x : Fin 256, K (ix3 0 k x) * Q (ix3 0 r x)

theorem scores_at (n : ℕ) (hn : n < 16) (k : Fin 512) (r : Fin 1024) :
    scores (F := Ideal) Q K n (ix3 0 k r) = score Q K ⟨512 * n + k.val, by omega⟩ r := by
  rw [scores, pay3_at]
  simp only [keys_at K n hn, score]

theorem tops_at (n : ℕ) (hn : n < 16) (r : Fin 1024) :
    tops (F := Ideal) Q K n (ix3 0 0 r)
      = Finset.univ.fold max ⊥ (fun k : Fin 512 => score Q K ⟨512 * n + k.val, by omega⟩ r) := by
  rw [tops, pay4_at]
  simp only [keys_at K n hn, score]

theorem mx_succ_at (n : ℕ) (r : Fin 1024) :
    mx (F := Ideal) Q K (n + 1) (ix2 0 r) = max (mx (F := Ideal) Q K n (ix2 0 r)) (tops (F := Ideal) Q K n (ix3 0 0 r)) :=
  pay5_at _ _ r

/-- After at least one chunk of real scores the running maximum is a real. -/
theorem mx_real (r : Fin 1024) (s : ℕ → ℝ) (hs : ∀ k : Fin 8192, score Q K k r = s k.val) :
    ∀ n < 16, ∃ a : ℝ, mx (F := Ideal) Q K (n + 1) (ix2 0 r) = a := by
  intro n
  induction n with
  | zero =>
    intro hn
    obtain ⟨b, hb⟩ := Online.fold_max_real (Finset.univ : Finset (Fin 512)) ⟨0, Finset.mem_univ _⟩ fun k => s (512 * 0 + k.val)
    refine ⟨b, ?_⟩
    rw [mx_succ_at, mx_zero_at, tops_at Q K 0 hn]
    simp only [hs]
    rw [hb]; exact max_eq_right bot_le
  | succ n ih =>
    intro hn
    obtain ⟨a, ha⟩ := ih (by omega)
    obtain ⟨b, hb⟩ := Online.fold_max_real (Finset.univ : Finset (Fin 512)) ⟨0, Finset.mem_univ _⟩ fun k => s (512 * (n + 1) + k.val)
    refine ⟨max a b, ?_⟩
    rw [mx_succ_at, ha, tops_at Q K (n + 1) hn]
    simp only [hs]
    rw [hb]; exact (EReal.coe_strictMono.monotone.map_max).symm

/-- Value row `d` at key `k`. -/
def val (d : Fin 144) (k : ℕ) : EReal := V (ix4 0 ⟨k / 256 % 32, Nat.mod_lt _ (by norm_num)⟩ d ⟨k % 256, Nat.mod_lt _ (by norm_num)⟩)

theorem val_chunk (d : Fin 144) (n : ℕ) (hn : n < 16) (x : Fin 256) :
    vals (F := Ideal) V (2 * n) (ix4 0 0 d x) = val V d (512 * n + x.val) := by
  rw [vals_at V (2 * n) (by omega), val]
  congr 2
  · exact Fin.ext (by show 2 * n = (512 * n + x.val) / 256 % 32; omega)
  · exact Fin.ext (by show x.val = (512 * n + x.val) % 256; omega)

theorem val_chunk' (d : Fin 144) (n : ℕ) (hn : n < 16) (x : Fin 256) :
    vals (F := Ideal) V (2 * n + 1) (ix4 0 0 d x) = val V d (512 * n + (256 + x.val)) := by
  rw [vals_at V (2 * n + 1) (by omega), val]
  congr 2
  · exact Fin.ext (by show 2 * n + 1 = (512 * n + (256 + x.val)) / 256 % 32; omega)
  · exact Fin.ext (by show x.val = (512 * n + (256 + x.val)) % 256; omega)

/-- The running sum after the last chunk: every key's value at its weight. -/
theorem acc_at (r : Fin 1024) (d : Fin 144) (s : ℕ → ℝ) (hs : ∀ k : Fin 8192, score Q K k r = s k.val) :
    acc (F := Ideal) Q K V 16 (ix2 d r)
      = ∑ k : Fin 8192, val V d k.val * Ideal.exp2 (s k.val - mx (F := Ideal) Q K 16 (ix2 0 r)) := by
  refine (Online.online s (val V d) (fun n => mx (F := Ideal) Q K n (ix2 0 r)) (fun n => acc (F := Ideal) Q K V n (ix2 d r)) 16
    (mx_real Q K r s hs) (acc_zero_at Q K V d r) (fun n hn => ?_) 16 le_rfl).trans (Finset.sum_range _)
  refine (pay8_at _ _ _ _ _ _ d r).trans ?_
  simp only [← mx_succ_at, val_chunk V d n hn, val_chunk' V d n hn, scores_at Q K n hn, hs]

/-- The block left by the point, at a query and a value coordinate: softmax attention over all the keys. -/
theorem out_at (r : Fin 1024) (d : Fin 128) (s x : ℕ → ℝ) (b : ℝ) (hs : ∀ k : Fin 8192, score Q K k r = s k.val)
    (hx : ∀ k, s k * Real.log 2 = x k) (h1 : ∀ k, val V 128 k = 1) :
    out (F := Ideal) Q K V (ix2 r d)
      = ∑ k : Fin 8192, val V ⟨d.val, by omega⟩ k.val
          * Ideal.div (Ideal.exp ((x k.val : EReal) - b)) (∑ j : Fin 8192, Ideal.exp ((x j.val : EReal) - b)) := by
  obtain ⟨a, ha⟩ := mx_real Q K r s hs 15 (by norm_num)
  rw [out, pay1_at, acc_at Q K V r _ s hs, acc_at Q K V r _ s hs, ha]
  simp only [h1]
  exact Online.quotient (by norm_num) (fun k => x k.val) (fun k => s k.val) _ a b fun k => hx k.val

end Cert.KernelIdeal.Flash

end
-- ==== Proof.Blocks.lean ====
/- Each grid point's blocks, read off the launch's operands: point `t` serves head `t / 8` and the queries from `1024 (t % 8)`. -/
module

public import proofs.«01_k».proof.Proof.Operands
public import proofs.«01_k».proof.Proof.Column

@[expose] public section

set_option maxRecDepth 16384

noncomputable section

namespace Cert.KernelIdeal.Flash

open Idealize.ShloMosaic Idealize.ShloMosaic.TcCoe Idealize.SL.Sem Cert.KernelIdeal.Gen

variable (m : (ℓ : Loc nD τ sig) → Buf (Elt Ideal) ℓ) (c : Dev nD)

theorem idx : ∀ t : Fin cfg0.N, win0_0.index t = ![t.val / 8, t.val % 8, 0] ∧ win0_1.index t = ![t.val / 8, 0, 0]
    ∧ win0_2.index t = ![t.val / 8, 0, 0, 0] ∧ win0_3.index t = ![t.val % 8, t.val / 8] ∧ t.val < 48 :=
  (by decide +kernel : ∀ t : Fin grid0.N, _)

theorem blkQ (t : Fin cfg0.N) (h : Fin 6) (hh : h.val = t.val / 8) (r : Fin 1024) (x : Fin 256) :
    (iblk m c 0 t : FVec Ideal S1x1024x256 .bf16) (ix3 0 r x) = opQ m c (ix3 h ⟨t.val % 8 * 1024 + r.val, by omega⟩ x) := by
  blk_ext [iblk, opQ, idx t]

theorem blkK (t : Fin cfg0.N) (h : Fin 6) (hh : h.val = t.val / 8) (k : Fin 8192) (x : Fin 256) :
    (iblk m c 1 t : FVec Ideal S1x8192x256 .bf16) (ix3 0 k x) = opK m c (ix3 h k x) := by
  blk_ext [iblk, opK, idx t]

theorem blkV (t : Fin cfg0.N) (h : Fin 6) (hh : h.val = t.val / 8) (n : Fin 32) (d : Fin 144) (x : Fin 256) :
    (iblk m c 2 t : FVec Ideal S1x32x144x256 .bf16) (ix4 0 n d x) = opV m c (ix4 h n d x) := by
  blk_ext [iblk, opV, idx t]

end Cert.KernelIdeal.Flash

end
-- ==== Proof.Reference.lean ====
/- The reference's result read at an index: softmax attention, for real scores. -/
module

public import proofs.«01_k».proof.Proof.Gen.ReferenceIdeal.Run
public import proofs.«01_k».proof.Proof.Online
public import Idealize.ShloMosaic.Lib.Pointwise
public import Idealize.ShloMosaic.Lib.IdealHost

@[expose] public section

set_option maxRecDepth 16384

noncomputable section

namespace Cert.ReferenceIdeal.Read

open Idealize.ShloMosaic Idealize.ShloMosaic.TcCoe Cert.ReferenceIdeal Cert.ReferenceIdeal.Gen Cert.ReferenceIdeal.Facts

/-- The scaled scores. -/
def sc (q k : FVec Ideal S8192x6x192 .f32) : FVec Ideal S6x8192x8192 .f32 :=
  mulf (Host.dotGeneral dot_S8192x6x192_S8192x6x192_S6x8192x8192_2_2_0_0_1_1 none q k)
    (broadcastInDim S6x8192x8192 ![] bcast_S_S6x8192x8192 (constant S_ .f32 0x3D93CD3A#32))

/-- Each query's largest score. -/
def top (s : FVec Ideal S6x8192x8192 .f32) : FVec Ideal S6x8192 .f32 :=
  maximumf (broadcastInDim S6x8192 ![] bcast_S_S6x8192 (constant S_ .f32 0xFF800000#32))
    (Host.reduce FloatOps.maximumf s (constant S_ .f32 0xFF800000#32) reducesTo_S6x8192x8192_S6x8192_d2 h_S_)

/-- The exponentials of the scores less the largest. -/
def ex (s : FVec Ideal S6x8192x8192 .f32) (t : FVec Ideal S6x8192 .f32) : FVec Ideal S6x8192x8192 .f32 :=
  Host.exp (subf s (broadcastInDim S6x8192x8192 ![0, 1, 2] bcast_S6x8192x1_S6x8192x8192_0_1_2
    (broadcastInDim S6x8192x1 ![0, 1] bcast_S6x8192_S6x8192x1_0_1 t)))

/-- The exponentials over their sum, weighing the values. -/
def mix (e : FVec Ideal S6x8192x8192 .f32) (v : FVec Ideal S8192x6x128 .f32) : FVec Ideal S8192x768 .f32 :=
  shapeCast _ (transpose S8192x6x128 [2, 0, 1] (Host.dotGeneral dot_S8192x6x128_S6x8192x8192_S6x128x8192_0_2_2_1_1_0 none v
    (Host.divf e (broadcastInDim S6x8192x8192 ![0, 1, 2] bcast_S6x8192x1_S6x8192x8192_0_1_2
      (broadcastInDim S6x8192x1 ![0, 1] bcast_S6x8192_S6x8192x1_0_1
        (Host.reduceAdd e (constant S_ .f32 0x00000000#32) reducesTo_S6x8192x8192_S6x8192_d2 h_S_)))))
    transposes_S6x128x8192_S8192x6x128_2_0_1) shapeCasts_S8192x6x128_S8192x768

/-- The reference's result. -/
def ref (q k : FVec Ideal S8192x6x192 .f32) (v : FVec Ideal S8192x6x128 .f32) : FVec Ideal S8192x768 .f32 :=
  mix (ex (sc q k) (top (sc q k))) v

theorem sc_at (q k : FVec Ideal S8192x6x192 .f32) (h : Fin 6) (i j : Fin 8192) :
    sc q k (ix3 h i j) = (∑ y : Fin 192, q (ix3 i h y) * k (ix3 j h y)) * Ideal.ofBits .f32 0x3D93CD3A#32 := by
  pointwise [sc]
  done

/-- A maximum over the last axis of real entries, from minus infinity, is a real. -/
theorem reduce_max_real {n0 n1 n2 : ℕ} {u : Shape} (h : (⟨3, ![n0, n1, n2]⟩ : Shape).ReducesTo [2] ⟨2, ![n0, n1]⟩) (hu : 0 < u.numel)
    (s : (⟨3, ![n0, n1, n2]⟩ : Shape).Idx → EReal) (init : u.Idx → EReal) (hi : init (Shape.Idx.first hu) = ⊥) (i : Fin n0) (j : Fin n1)
    (hn : 0 < n2) (hs : ∀ k : Fin n2, ∃ a : ℝ, s (ix3 i j k) = a) :
    ∃ a : ℝ, Host.reduce (FloatOps.maximumf (F := Ideal) (φ := .f32)) s init h hu (ix2 i j) = a := by
  have hm : (FloatOps.maximumf (F := Ideal) (φ := .f32)) = (max : EReal → EReal → EReal) := rfl
  choose f hf using hs
  obtain ⟨a, ha⟩ := Online.fold_max_real (Finset.univ : Finset (Fin n2)) ⟨⟨0, hn⟩, Finset.mem_univ _⟩ f
  refine ⟨a, ?_⟩
  rw [hm, Host.reduce_eq_fold, h.fold_fiber_r3_a2, hi, ← ha]
  exact congrArg (fun g => Finset.univ.fold max ⊥ g) (funext fun k => hf k)

theorem ofBits_bot : Ideal.ofBits FTy.f32 0xFF800000#32 = (⊥ : EReal) := by
  simp [Ideal.ofBits, Ideal.ieee]

theorem maximumf_at {S : Shape} (x y : FVec Ideal S .f32) (i : S.Idx) : maximumf x y i = max (x i : EReal) (y i) := rfl

theorem top_real (s : FVec Ideal S6x8192x8192 .f32) (h : Fin 6) (i : Fin 8192) (hs : ∀ j : Fin 8192, ∃ a : ℝ, s (ix3 h i j) = a) :
    ∃ a : ℝ, top s (ix2 h i) = a := by
  obtain ⟨a, ha⟩ := reduce_max_real reducesTo_S6x8192x8192_S6x8192_d2 h_S_ s (constant (F := Ideal) S_ .f32 0xFF800000#32) ofBits_bot h i
    (by norm_num) hs
  refine ⟨a, ?_⟩
  refine (maximumf_at _ _ _).trans ?_
  rw [ha]
  exact (congrArg (max · (a : EReal)) ofBits_bot).trans (max_eq_right bot_le)

theorem ex_at (s : FVec Ideal S6x8192x8192 .f32) (t : FVec Ideal S6x8192 .f32) (h : Fin 6) (i j : Fin 8192) :
    ex s t (ix3 h i j) = Ideal.exp (s (ix3 h i j) - t (ix2 h i)) := by
  pointwise [ex]
  done

theorem mix_at (e : FVec Ideal S6x8192x8192 .f32) (v : FVec Ideal S8192x6x128 .f32) (i : Fin 8192) (h : Fin 6) (d : Fin 128) :
    mix e v (ix2 i ⟨h.val * 128 + d.val, by omega⟩)
      = ∑ j : Fin 8192, v (ix3 j h d) * Ideal.div (e (ix3 h i j)) (∑ l : Fin 8192, e (ix3 h i l)) := by
  pointwise [mix]
  done

end Cert.ReferenceIdeal.Read

end
-- ==== Proof.Value.lean ====
/- The kernel's result is the reference's, for real queries and keys. -/
module

public import proofs.«01_k».proof.Proof.Blocks
public import proofs.«01_k».proof.Proof.Reference

@[expose] public section

set_option maxRecDepth 16384

noncomputable section

namespace Cert.KernelIdeal.Flash

open Idealize.ShloMosaic Idealize.ShloMosaic.TcCoe Idealize.SL.Sem Cert.KernelIdeal.Gen

/-- The reference's scale is a real. -/
theorem scale_real : ∃ σ : ℝ, Ideal.ofBits .f32 0x3D93CD3A#32 = ((σ : ℝ) : EReal) :=
  ⟨_, by simp [Ideal.ofBits, Ideal.ieee, -EReal.coe_mul]; rfl⟩

theorem ofBits_two : Ideal.ofBits .f32 0x40000000#32 = ((2 : ℝ) : EReal) := by
  simp [Ideal.ofBits, Ideal.ieee, -EReal.coe_mul]; norm_num

/-- The kernel's scale is the reference's over `log 2`. -/
theorem scale_eq (σ : ℝ) (h : Ideal.ofBits .f32 0x3D93CD3A#32 = ((σ : ℝ) : EReal)) : scale = ((σ / Real.log 2 : ℝ) : EReal) := by
  rw [scale, h, ofBits_two, Ideal.log_coe, if_neg (by norm_num), Ideal.div_coe (Real.log_pos (by norm_num)).ne', ← EReal.coe_mul,
    mul_one_div]

/-- A sum over 256 lanes of which the last 64 hold zero. -/
theorem sum_pad (f : Fin 192 → ℝ) : ∑ x : Fin 256, (if hx : x.val < 192 then f ⟨x.val, hx⟩ else 0) = ∑ y : Fin 192, f y := by
  rw [Fin.sum_univ_add (a := 192) (b := 64)]
  simp

/-- The real score of query `i` against key `j` in head `h`, before the scale. -/
def dot (q k : (⟨3, ![8192, 6, 192]⟩ : Shape).Idx → ℝ) (h : Fin 6) (i j : Fin 8192) : ℝ := ∑ y : Fin 192, q (ix3 i h y) * k (ix3 j h y)

/-- The reference at an index. -/
theorem ref_at (q k : FVec Ideal S8192x6x192 .f32) (v : FVec Ideal S8192x6x128 .f32) (q' k' : (⟨3, ![8192, 6, 192]⟩ : Shape).Idx → ℝ)
    (hq : ∀ j, q j = q' j) (hk : ∀ j, k j = k' j) (σ : ℝ) (hσ : Ideal.ofBits .f32 0x3D93CD3A#32 = ((σ : ℝ) : EReal))
    (i : Fin 8192) (h : Fin 6) (d : Fin 128) :
    ∃ b : ℝ, Cert.ReferenceIdeal.Read.ref q k v (ix2 i ⟨h.val * 128 + d.val, by omega⟩)
      = ∑ j : Fin 8192, v (ix3 j h d) * Ideal.div (Ideal.exp (((dot q' k' h i j * σ : ℝ) : EReal) - b))
          (∑ l : Fin 8192, Ideal.exp (((dot q' k' h i l * σ : ℝ) : EReal) - b)) := by
  have hs : ∀ j : Fin 8192, Cert.ReferenceIdeal.Read.sc q k (ix3 h i j) = ((dot q' k' h i j * σ : ℝ) : EReal) := fun j => by
    rw [Cert.ReferenceIdeal.Read.sc_at, hσ, dot, EReal.coe_mul, Online.coe_sum]
    refine congrArg (· * (σ : EReal)) (Finset.sum_congr rfl fun y _ => ?_)
    rw [hq, hk, EReal.coe_mul]
  obtain ⟨b, hb⟩ := Cert.ReferenceIdeal.Read.top_real (Cert.ReferenceIdeal.Read.sc q k) h i fun j => ⟨_, hs j⟩
  refine ⟨b, ?_⟩
  rw [Cert.ReferenceIdeal.Read.ref, Cert.ReferenceIdeal.Read.mix_at]
  simp only [Cert.ReferenceIdeal.Read.ex_at, hs, hb]

/-- A column's score, from the two rows it multiplies: 192 lanes of reals, the queries' scaled, then zeros. -/
theorem score_of (Q : FVec Ideal S1x1024x256 .bf16) (K : FVec Ideal S1x8192x256 .bf16) (r : Fin 1024) (j : Fin 8192) (a b : Fin 192 → ℝ) (ρ : ℝ)
    (hQ : ∀ x : Fin 256, Q (ix3 0 r x) = if hx : x.val < 192 then (a ⟨x.val, hx⟩ : EReal) * ρ else 0)
    (hK : ∀ x : Fin 256, K (ix3 0 j x) = if hx : x.val < 192 then (b ⟨x.val, hx⟩ : EReal) else 0) :
    score Q K j r = (((∑ y, a y * b y) * ρ : ℝ) : EReal) := by
  have e : ∀ x : Fin 256, K (ix3 0 j x) * Q (ix3 0 r x)
      = ((if hx : x.val < 192 then a ⟨x.val, hx⟩ * b ⟨x.val, hx⟩ * ρ else 0 : ℝ) : EReal) := by
    intro x
    rw [hK, hQ]
    by_cases hx : x.val < 192
    · simp only [dif_pos hx]
      rw [← EReal.coe_mul, ← EReal.coe_mul]
      congr 1; ring
    · simp only [dif_neg hx, mul_zero, EReal.coe_zero]
  rw [score, Finset.sum_congr rfl fun x _ => e x, ← Online.coe_sum, sum_pad fun y => a y * b y * ρ, ← Finset.sum_mul]

variable (m : (ℓ : Loc nD τ sig) → Buf (Elt Ideal) ℓ) (c : Dev nD)

/-- A point's score, over the arguments. -/
theorem score_at (q' k' : (⟨3, ![8192, 6, 192]⟩ : Shape).Idx → ℝ) (hq : ∀ j, argQ m c j = q' j) (hk : ∀ j, argK m c j = k' j)
    (σ : ℝ) (hσ : Ideal.ofBits .f32 0x3D93CD3A#32 = ((σ : ℝ) : EReal))
    (t : Fin cfg0.N) (h : Fin 6) (hh : h.val = t.val / 8) (r : Fin 1024) (j : Fin 8192) :
    score (iblk m c 0 t) (iblk m c 1 t) j r
      = ((dot q' k' h ⟨t.val % 8 * 1024 + r.val, by omega⟩ j * (σ / Real.log 2) : ℝ) : EReal) := by
  refine score_of _ _ r j _ _ _ (fun x => ?_) (fun x => ?_)
  · rw [blkQ m c t h hh, q_at, scale_eq σ hσ]
    simp only [hq]
  · rw [blkK m c t h hh, k_at]
    simp only [hk]

/-- What a point leaves, at a query and a value coordinate. -/
theorem point_at (q' k' : (⟨3, ![8192, 6, 192]⟩ : Shape).Idx → ℝ) (hq : ∀ j, argQ m c j = q' j) (hk : ∀ j, argK m c j = k' j)
    (t : Fin cfg0.N) (h : Fin 6) (hh : h.val = t.val / 8) (r : Fin 1024) (d : Fin 128) :
    out (F := Ideal) (iblk m c 0 t) (iblk m c 1 t) (iblk m c 2 t) (ix2 r d)
      = Cert.ReferenceIdeal.Read.ref (argQ m c) (argK m c) (argV m c)
          (ix2 ⟨t.val % 8 * 1024 + r.val, by omega⟩ ⟨h.val * 128 + d.val, by omega⟩) := by
  obtain ⟨σ, hσ⟩ := scale_real
  obtain ⟨b, hb⟩ := ref_at (argQ m c) (argK m c) (argV m c) q' k' hq hk σ hσ ⟨t.val % 8 * 1024 + r.val, by omega⟩ h d
  rw [hb]
  have hL : Real.log 2 ≠ 0 := (Real.log_pos (by norm_num)).ne'
  let n : ℕ → Fin 8192 := fun k => ⟨k % 8192, Nat.mod_lt _ (by norm_num)⟩
  have hn : ∀ k : Fin 8192, n k.val = k := fun k => Fin.ext (Nat.mod_eq_of_lt k.isLt)
  refine (out_at (iblk m c 0 t) (iblk m c 1 t) (iblk m c 2 t) r d
    (fun k => dot q' k' h ⟨t.val % 8 * 1024 + r.val, by omega⟩ (n k) * (σ / Real.log 2))
    (fun k => dot q' k' h ⟨t.val % 8 * 1024 + r.val, by omega⟩ (n k) * σ) b
    (fun k => by rw [hn, score_at m c q' k' hq hk σ hσ t h hh r k]) (fun k => by field_simp)
    (fun k => by rw [val, blkV m c t h hh, ones_at])).trans ?_
  simp only [hn]
  refine Finset.sum_congr rfl fun k _ => ?_
  congr 1
  rw [val, blkV m c t h hh, v_at m c h _ _ _ d.isLt]
  congr 2
  exact Fin.ext (by show 256 * (k.val / 256 % 32) + k.val % 256 = k.val; omega)

/-- The result array after the launch. -/
theorem final (hq : ∀ j, ∃ a : ℝ, argQ m c j = a) (hk : ∀ j, ∃ a : ℝ, argK m c j = a) :
    (dats m 0 c).arrAt 3 cfg0.N = Cert.ReferenceIdeal.Read.ref (argQ m c) (argK m c) (argV m c) := by
  choose q' hq' using hq
  choose k' hk' using hk
  refine (dats m 0 c).arrAt_eq_of_covers 3 _ (by decide +kernel) fun t _ y => ?_
  blk_simp
  rw [after0_3]
  have ht := (idx t).2.2.2.2
  have hy : y = ix2 (y 0) (y 1) := by idx_ext
  rw [hy]
  refine (point_at m c q' k' hq' hk' t ⟨t.val / 8, by omega⟩ rfl (y 0) (y 1)).trans ?_
  blk_ext [idx t]

end Cert.KernelIdeal.Flash

end
-- ==== Proof.Finite.lean ====
/- The precondition read back: every query and key entry is a real. -/
module

public import proofs.«01_k».proof.Pre_finite
public import proofs.«01_k».proof.Proof.Gen.Pre_finite
public import Idealize.ShloMosaic.Lib.ReduceAll
public import Idealize.ShloMosaic.Lib.IdealHost
public import Idealize.ShloMosaic.Lib.Affine

@[expose] public section

set_option maxRecDepth 16384

noncomputable section

namespace Cert.Pre_finite.Read

open Idealize.ShloMosaic Cert.Pre_finite Cert.Pre_finite.Facts

theorem ofBits_top : Ideal.ofBits FTy.f32 0x7F800000#32 = (⊤ : EReal) := by
  simp [Ideal.ofBits, Ideal.ieee]

instance : Subsingleton S_.Idx := ⟨fun a b => funext fun i => i.elim0⟩

theorem real_of_lt (x : EReal) (h : FloatOps.cmpf (F := Ideal) (φ := .f32) .olt (FloatOps.hostAbsf (F := Ideal) (φ := .f32) x) (Ideal.ofBits FTy.f32 0x7F800000#32) = 1#1) : ∃ a : ℝ, x = a := by
  rw [ofBits_top] at h
  induction x with
  | bot => simp [Ideal.cmpf_def, Ideal.absf_def, Ideal.cmp] at h
  | coe a => exact ⟨a, rfl⟩
  | top => simp [Ideal.cmpf_def, Ideal.absf_def, Ideal.cmp] at h

variable [Facts]

theorem reals (q k : FVec Ideal S8192x6x192 .f32) (v : FVec Ideal S8192x6x128 .f32) (i : S_.Idx) (h : fn (F := Ideal) q k v i = 1#1) :
    (∀ j, ∃ a : ℝ, q j = a) ∧ ∀ j, ∃ a : ℝ, k j = a := by
  unfold fn at h
  obtain ⟨h1, h2⟩ := IntOp.andi_eq_one.1 h
  exact ⟨fun j => real_of_lt _ (Host.reduce_andi_all _ _ _ _ i h1 j), fun j => real_of_lt _ (Host.reduce_andi_all _ _ _ _ i h2 j)⟩

end Cert.Pre_finite.Read

end
-- ==== Proof.Equal.lean ====
/- From equal arguments with real queries and keys, kernel and reference end with the same result. -/
module

public import proofs.«01_k».proof.Proof.Frames
public import proofs.«01_k».proof.Proof.Value
public import proofs.«01_k».proof.Proof.Finite

@[expose] public section

noncomputable section

namespace Cert.Proof

open Idealize.ShloMosaic Idealize.ShloMosaic.TcCoe Idealize.SL.Sem

theorem equal : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.ReferenceIdeal.Read.ref (Cert.KernelIdeal.Flash.argQ m c) (Cert.KernelIdeal.Flash.argK m c) (Cert.KernelIdeal.Flash.argV m c), ?_, ?_⟩
  · refine (θ_run _ _ _).mono (fun _ h c => ⟨(h.1 c).1.trans ?_, (h.1 c).2⟩) (Cert.KernelIdeal.Flash.run_post m g)
    obtain ⟨hq, hk⟩ := Cert.Pre_finite.Read.reals _ _ _ (fun i => i.elim0) (congrFun (hpre c) _)
    exact Cert.KernelIdeal.Flash.final m c hq hk
  · refine (θ_run _ _ _).mono (fun _ h c => ⟨(h c).1.trans ?_, (h c).2⟩) (Cert.ReferenceIdeal.Value.run (F := Ideal) m' g')
    rw [(hagree c).1, (hagree c).2.1, (hagree c).2.2]
    rfl

end Cert.Proof

end
-- ==== Proof.Steps2.lean ====
/- What one grid point of the attention call computes, as a recursion over the sixteen chunks of 512 keys: the running
   maximum of the scores (a row over the 1024 queries) and the running weighted sum of the values (144 rows, the
   128 value coordinates, then the row of ones that carries the denominator, then padding). -/
module

public import proofs.«01_k».proof.Proof.Gen.Kernel2Ideal.Skeleton
public import Idealize.ShloMosaic.Lib.Pipeline.ValueKit

@[expose] public section

set_option maxRecDepth 16384

noncomputable section

namespace Cert.Kernel2Ideal.Flash

open Idealize.ShloMosaic Idealize.ShloMosaic.TcCoe Idealize.SL.Sem Cert.Kernel2Ideal.Gen

variable {F : FTy → Type} [FloatOps F]

theorem keys_inb (n : ℕ) : ∀ a, (![0, 512 * (n % 16), 0] : Fin 3 → ℕ) a + S1x512x128.size a ≤ S1x8192x128.size a := by
  intro a
  fin_cases a <;> simp [S1x512x128, S1x8192x128] <;> omega

theorem vals_inb (n : ℕ) : ∀ a, (![0, n % 32, 0, 0] : Fin 4 → ℕ) a + S1x1x144x256.size a ≤ S1x32x144x256.size a := by
  intro a
  fin_cases a <;> simp [S1x1x144x256, S1x32x144x256] <;> omega

/-- Chunk `n` of 512 keys (counted around the sixteen). -/
def keys (K : Vec F S1x8192x128 .bf16) (n : ℕ) : Vec F S1x512x128 .bf16 :=
  View.ld K (Rect.unit (s := S1x8192x128) ![0, 512 * (n % 16), 0] S1x512x128.size (keys_inb n))

/-- Block `n` of 256 columns of the transposed values. -/
def vals (V : Vec F S1x32x144x256 .bf16) (n : ℕ) : Vec F S1x1x144x256 .bf16 :=
  View.ld V (Rect.unit (s := S1x32x144x256) ![0, n % 32, 0, 0] S1x1x144x256.size (vals_inb n))

/-- The scores of chunk `n` against the block's queries, as the kernel keeps them. -/
def scores (Q : Vec F S1x1024x128 .bf16) (K : Vec F S1x8192x128 .bf16) (n : ℕ) : FVec F S1x512x1024 .f32 := k0_pay3 (keys K n) Q

/-- The largest score of chunk `n` at each query. -/
def tops (Q : Vec F S1x1024x128 .bf16) (K : Vec F S1x8192x128 .bf16) (n : ℕ) : FVec F S1x1x1024 .f32 := k0_pay4 (keys K n) Q

/-- The running maximum after the first `n` chunks. -/
def mx (Q : Vec F S1x1024x128 .bf16) (K : Vec F S1x8192x128 .bf16) : ℕ → FVec F S1x1024 .f32
  | 0 => k0_pay64
  | n + 1 => k0_pay9 (k0_pay5 (mx Q K n) (tops Q K n))

/-- The running weighted sum of the values after the first `n` chunks. -/
def acc (Q : Vec F S1x1024x128 .bf16) (K : Vec F S1x8192x128 .bf16) (V : Vec F S1x32x144x256 .bf16) : ℕ → FVec F S144x1024 .f32
  | 0 => k0_pay65
  | n + 1 => k0_pay8 (k0_pay6 (mx Q K n) (tops Q K n) (scores Q K n)) (k0_pay7 (mx Q K n) (tops Q K n)) (vals V (2 * n)) (vals V (2 * n + 1))
      (acc Q K V n)

/-- What the point leaves in its block of the result. -/
def out (Q : Vec F S1x1024x128 .bf16) (K : Vec F S1x8192x128 .bf16) (V : Vec F S1x32x144x256 .bf16) : FVec F S1024x128 .f32 :=
  k0_pay1 (k0_pay71 (acc Q K V 16)) (k0_pay72 (acc Q K V 16))

/-- A load names the same elements whatever way its offsets are written. -/
theorem ld_unit_congr {S : Shape} {e : EltTy} (X : S.Idx → Elt F e) {o o' s : Fin S.rank → ℕ} (h : o = o')
    (i : ∀ a, o a + s a ≤ S.size a) (i' : ∀ a, o' a + s a ≤ S.size a) : View.ld X (Rect.unit (s := S) o s i) = View.ld X (Rect.unit (s := S) o' s i') := by
  subst h; rfl

theorem off1_eq : ∀ (k : Fin k0_t1_loop.trips) (r : Fin 7), k0_off1 k (BitVec.ofNat 32 r.val) = ![0, 512 * ((8 * k.val + r.val + 1) % 16), 0] := by
  decide +kernel
theorem off2_eq : ∀ (k : Fin k0_t1_loop.trips) (r : Fin 8), k0_off2 k (BitVec.ofNat 32 r.val) = ![0, (2 * (8 * k.val + r.val)) % 32, 0, 0] := by
  decide +kernel
theorem off3_eq : ∀ (k : Fin k0_t1_loop.trips) (r : Fin 8), k0_off3 k (BitVec.ofNat 32 r.val) = ![0, (2 * (8 * k.val + r.val) + 1) % 32, 0, 0] := by
  decide +kernel
theorem off4_eq : ∀ k : Fin k0_t1_loop.trips, k0_off4 k = ![0, 512 * ((8 * k.val + 8) % 16), 0] := by
  decide +kernel

end Cert.Kernel2Ideal.Flash

end
-- ==== Proof.Payloads2.lean ====
/- The eight passes of one trip are written out in the kernel, each with the same arithmetic: every pass's stored values
   are those of the first. -/
module

public import proofs.«01_k».proof.Proof.Steps2

@[expose] public section

set_option maxRecDepth 16384

noncomputable section

namespace Cert.Kernel2Ideal.Flash

open Idealize.ShloMosaic Idealize.ShloMosaic.TcCoe Idealize.SL.Sem Cert.Kernel2Ideal.Gen

variable {F : FTy → Type} [FloatOps F]

section Scores
variable (K : Vec F S1x512x128 .bf16) (Q : Vec F S1x1024x128 .bf16)

theorem pay12_eq : k0_pay12 (k0_pay10 K) Q = k0_pay3 K Q := rfl
theorem pay13_eq : k0_pay13 (k0_pay10 K) Q = k0_pay4 K Q := rfl
theorem pay21_eq : k0_pay21 K Q = k0_pay3 K Q := rfl
theorem pay22_eq : k0_pay22 K Q = k0_pay4 K Q := rfl
theorem pay27_eq : k0_pay27 K Q = k0_pay3 K Q := rfl
theorem pay28_eq : k0_pay28 K Q = k0_pay4 K Q := rfl
theorem pay35_eq : k0_pay35 (k0_pay33 K) Q = k0_pay3 K Q := rfl
theorem pay36_eq : k0_pay36 (k0_pay33 K) Q = k0_pay4 K Q := rfl
theorem pay44_eq : k0_pay44 K Q = k0_pay3 K Q := rfl
theorem pay46_eq : k0_pay46 (k0_pay45 K Q) = k0_pay4 K Q := rfl
theorem pay52_eq : k0_pay52 K Q = k0_pay3 K Q := rfl
theorem pay53_eq : k0_pay53 K Q = k0_pay4 K Q := rfl
theorem pay58_eq : k0_pay58 K Q = k0_pay3 K Q := rfl
theorem pay59_eq : k0_pay59 K Q = k0_pay4 K Q := rfl
theorem pay67_eq : k0_pay67 K Q = k0_pay3 K Q := rfl
theorem pay68_eq : k0_pay68 K Q = k0_pay4 K Q := rfl
end Scores

section Update
variable (m : FVec F S1x1024 .f32) (c : FVec F S1x1x1024 .f32) (s : FVec F S1x512x1024 .f32) (V V' : Vec F S1x1x144x256 .bf16) (a : FVec F S144x1024 .f32)

/-- The next running maximum. -/
def nxt : FVec F S1x1024 .f32 := k0_pay9 (k0_pay5 m c)

/-- The next running sum. -/
def upd : FVec F S144x1024 .f32 := k0_pay8 (k0_pay6 m c s) (k0_pay7 m c) V V' a

theorem pay9_eq : k0_pay9 (k0_pay5 m c) = nxt m c := rfl
theorem pay19_eq : k0_pay19 (k0_pay14 m c) = nxt m c := rfl
theorem pay25_eq : k0_pay25 (k0_pay23 m c) = nxt m c := rfl
theorem pay32_eq : k0_pay32 (k0_pay29 m c) = nxt m c := rfl
theorem pay42_eq : k0_pay42 (k0_pay37 m c) = nxt m c := rfl
theorem pay50_eq : k0_pay50 (k0_pay47 m c) = nxt m c := rfl
theorem pay56_eq : k0_pay56 (k0_pay54 m c) = nxt m c := rfl
theorem pay70_eq : k0_pay70 (k0_pay60 m c) = nxt m c := rfl

theorem pay8_eq : k0_pay8 (k0_pay6 m c s) (k0_pay7 m c) V V' a = upd m c s V V' a := rfl
theorem pay18_eq : k0_pay18 (k0_pay15 m c s) (k0_pay16 m c) (k0_pay17 m c s V) V' a = upd m c s V V' a := rfl
theorem pay24_eq : k0_pay24 m c s V V' a = upd m c s V V' a := rfl
theorem pay31_eq : k0_pay31 m (k0_pay29 m c) (k0_pay30 m c s) V V' a = upd m c s V V' a := rfl
theorem pay41_eq : k0_pay41 (k0_pay38 m c s) (k0_pay39 m c) (k0_pay40 m c s V) V' a = upd m c s V V' a := rfl
theorem pay49_eq : k0_pay49 (k0_pay48 m c s V V' a) = upd m c s V V' a := rfl
theorem pay55_eq : k0_pay55 m (k0_pay54 m c) s V V' a = upd m c s V V' a := rfl
theorem pay69_eq : k0_pay69 (k0_pay61 m c s) (k0_pay62 m c) (k0_pay63 V) V' a = upd m c s V V' a := rfl
end Update

theorem mx_succ (Q : Vec F S1x1024x128 .bf16) (K : Vec F S1x8192x128 .bf16) (n : ℕ) : nxt (mx Q K n) (tops Q K n) = mx Q K (n + 1) := rfl

theorem acc_succ (Q : Vec F S1x1024x128 .bf16) (K : Vec F S1x8192x128 .bf16) (V : Vec F S1x32x144x256 .bf16) (n : ℕ) :
    upd (mx Q K n) (tops Q K n) (scores Q K n) (vals V (2 * n)) (vals V (2 * n + 1)) (acc Q K V n) = acc Q K V (n + 1) := rfl

theorem fold_scores (Q : Vec F S1x1024x128 .bf16) (K : Vec F S1x8192x128 .bf16) (n : ℕ) : k0_pay3 (keys K n) Q = scores Q K n := rfl
theorem fold_tops (Q : Vec F S1x1024x128 .bf16) (K : Vec F S1x8192x128 .bf16) (n : ℕ) : k0_pay4 (keys K n) Q = tops Q K n := rfl

theorem eight (n : ℕ) : 8 * (n + 1) = 8 * n + 8 := rfl

/-- After sixteen chunks the count comes round. -/
theorem keys_mod (K : Vec F S1x8192x128 .bf16) (n : ℕ) : keys K (n % 16) = keys K n := by
  unfold keys; exact ld_unit_congr _ (by rw [Nat.mod_mod]) _ _

section Loads
variable (K : Vec F S1x8192x128 .bf16) (V : Vec F S1x32x144x256 .bf16) (k : Fin k0_t1_loop.trips)

theorem ld_off1_0 (h) : View.ld K (Rect.unit (s := S1x8192x128) (k0_off1 k 0#32) S1x512x128.size h) = keys K (8 * k.val + 1) := ld_unit_congr _ (off1_eq k 0) _ _
theorem ld_off1_1 (h) : View.ld K (Rect.unit (s := S1x8192x128) (k0_off1 k 1#32) S1x512x128.size h) = keys K (8 * k.val + 2) := ld_unit_congr _ (off1_eq k 1) _ _
theorem ld_off1_2 (h) : View.ld K (Rect.unit (s := S1x8192x128) (k0_off1 k 2#32) S1x512x128.size h) = keys K (8 * k.val + 3) := ld_unit_congr _ (off1_eq k 2) _ _
theorem ld_off1_3 (h) : View.ld K (Rect.unit (s := S1x8192x128) (k0_off1 k 3#32) S1x512x128.size h) = keys K (8 * k.val + 4) := ld_unit_congr _ (off1_eq k 3) _ _
theorem ld_off1_4 (h) : View.ld K (Rect.unit (s := S1x8192x128) (k0_off1 k 4#32) S1x512x128.size h) = keys K (8 * k.val + 5) := ld_unit_congr _ (off1_eq k 4) _ _
theorem ld_off1_5 (h) : View.ld K (Rect.unit (s := S1x8192x128) (k0_off1 k 5#32) S1x512x128.size h) = keys K (8 * k.val + 6) := ld_unit_congr _ (off1_eq k 5) _ _
theorem ld_off1_6 (h) : View.ld K (Rect.unit (s := S1x8192x128) (k0_off1 k 6#32) S1x512x128.size h) = keys K (8 * k.val + 7) := ld_unit_congr _ (off1_eq k 6) _ _
theorem ld_off2_0 (h) : View.ld V (Rect.unit (s := S1x32x144x256) (k0_off2 k 0#32) S1x1x144x256.size h) = vals V (2 * (8 * k.val + 0)) := ld_unit_congr _ (off2_eq k 0) _ _
theorem ld_off2_1 (h) : View.ld V (Rect.unit (s := S1x32x144x256) (k0_off2 k 1#32) S1x1x144x256.size h) = vals V (2 * (8 * k.val + 1)) := ld_unit_congr _ (off2_eq k 1) _ _
theorem ld_off2_2 (h) : View.ld V (Rect.unit (s := S1x32x144x256) (k0_off2 k 2#32) S1x1x144x256.size h) = vals V (2 * (8 * k.val + 2)) := ld_unit_congr _ (off2_eq k 2) _ _
theorem ld_off2_3 (h) : View.ld V (Rect.unit (s := S1x32x144x256) (k0_off2 k 3#32) S1x1x144x256.size h) = vals V (2 * (8 * k.val + 3)) := ld_unit_congr _ (off2_eq k 3) _ _
theorem ld_off2_4 (h) : View.ld V (Rect.unit (s := S1x32x144x256) (k0_off2 k 4#32) S1x1x144x256.size h) = vals V (2 * (8 * k.val + 4)) := ld_unit_congr _ (off2_eq k 4) _ _
theorem ld_off2_5 (h) : View.ld V (Rect.unit (s := S1x32x144x256) (k0_off2 k 5#32) S1x1x144x256.size h) = vals V (2 * (8 * k.val + 5)) := ld_unit_congr _ (off2_eq k 5) _ _
theorem ld_off2_6 (h) : View.ld V (Rect.unit (s := S1x32x144x256) (k0_off2 k 6#32) S1x1x144x256.size h) = vals V (2 * (8 * k.val + 6)) := ld_unit_congr _ (off2_eq k 6) _ _
theorem ld_off2_7 (h) : View.ld V (Rect.unit (s := S1x32x144x256) (k0_off2 k 7#32) S1x1x144x256.size h) = vals V (2 * (8 * k.val + 7)) := ld_unit_congr _ (off2_eq k 7) _ _
theorem ld_off3_0 (h) : View.ld V (Rect.unit (s := S1x32x144x256) (k0_off3 k 0#32) S1x1x144x256.size h) = vals V (2 * (8 * k.val + 0) + 1) := ld_unit_congr _ (off3_eq k 0) _ _
theorem ld_off3_1 (h) : View.ld V (Rect.unit (s := S1x32x144x256) (k0_off3 k 1#32) S1x1x144x256.size h) = vals V (2 * (8 * k.val + 1) + 1) := ld_unit_congr _ (off3_eq k 1) _ _
theorem ld_off3_2 (h) : View.ld V (Rect.unit (s := S1x32x144x256) (k0_off3 k 2#32) S1x1x144x256.size h) = vals V (2 * (8 * k.val + 2) + 1) := ld_unit_congr _ (off3_eq k 2) _ _
theorem ld_off3_3 (h) : View.ld V (Rect.unit (s := S1x32x144x256) (k0_off3 k 3#32) S1x1x144x256.size h) = vals V (2 * (8 * k.val + 3) + 1) := ld_unit_congr _ (off3_eq k 3) _ _
theorem ld_off3_4 (h) : View.ld V (Rect.unit (s := S1x32x144x256) (k0_off3 k 4#32) S1x1x144x256.size h) = vals V (2 * (8 * k.val + 4) + 1) := ld_unit_congr _ (off3_eq k 4) _ _
theorem ld_off3_5 (h) : View.ld V (Rect.unit (s := S1x32x144x256) (k0_off3 k 5#32) S1x1x144x256.size h) = vals V (2 * (8 * k.val + 5) + 1) := ld_unit_congr _ (off3_eq k 5) _ _
theorem ld_off3_6 (h) : View.ld V (Rect.unit (s := S1x32x144x256) (k0_off3 k 6#32) S1x1x144x256.size h) = vals V (2 * (8 * k.val + 6) + 1) := ld_unit_congr _ (off3_eq k 6) _ _
theorem ld_off3_7 (h) : View.ld V (Rect.unit (s := S1x32x144x256) (k0_off3 k 7#32) S1x1x144x256.size h) = vals V (2 * (8 * k.val + 7) + 1) := ld_unit_congr _ (off3_eq k 7) _ _
theorem ld_off3_7' (h) : View.ld V (Rect.unit (s := S1x32x144x256) (k0_off3 k 7#32) ![1, 1, 144, 256] h) = vals V (2 * (8 * k.val + 7) + 1) := ld_off3_7 V k h
theorem ld_off4 (h) : View.ld K (Rect.unit (s := S1x8192x128) (k0_off4 k) S1x512x128.size h) = keys K (8 * k.val + 8) := ld_unit_congr _ (off4_eq k) _ _

end Loads

/-- The two slots of the kept scores. -/
abbrev slot0 : Rect S2x512x1024 := Rect.unit (s := S2x512x1024) ![0, 0, 0] S1x512x1024.size inb_S2x512x1024_S1x512x1024_0_0_0
abbrev slot1 : Rect S2x512x1024 := Rect.unit (s := S2x512x1024) ![1, 0, 0] S1x512x1024.size inb_S2x512x1024_S1x512x1024_1_0_0
/-- The two slots of the kept chunk maxima. -/
abbrev top0 : Rect S2x1x1024 := Rect.unit (s := S2x1x1024) ![0, 0, 0] S1x1x1024.size inb_S2x1x1024_S1x1x1024_0_0_0
abbrev top1 : Rect S2x1x1024 := Rect.unit (s := S2x1x1024) ![1, 0, 0] S1x1x1024.size inb_S2x1x1024_S1x1x1024_1_0_0

theorem slot0_not_mem (x) : slot0.idx x ∉ slot1.set :=
  slot1.not_mem_set_of_axis _ 0 1 1 rfl rfl rfl (.inl (by have h : (x 0).val < 1 := (x 0).isLt; show 0 + 1 * (x 0).val < 1; omega))
theorem slot1_not_mem (x) : slot1.idx x ∉ slot0.set :=
  slot0.not_mem_set_of_axis _ 0 0 1 rfl rfl rfl (.inr (by show 0 + 1 ≤ 1 + 1 * (x 0).val; omega))
theorem top0_not_mem (x) : top0.idx x ∉ top1.set :=
  top1.not_mem_set_of_axis _ 0 1 1 rfl rfl rfl (.inl (by have h : (x 0).val < 1 := (x 0).isLt; show 0 + 1 * (x 0).val < 1; omega))
theorem top1_not_mem (x) : top1.idx x ∉ top0.set :=
  top0.not_mem_set_of_axis _ 0 0 1 rfl rfl rfl (.inr (by show 0 + 1 ≤ 1 + 1 * (x 0).val; omega))

section Reads
variable {sig : RefSig} {κ : Kind} {sp : Space} {s : Shape} {e : EltTy} {Val : EltTy → Type} [∀ e, Nonempty (Val e)]

/-- A load at the place just stored reads the stored value. -/
theorem cov_hit (v : View sig κ sp s e) (r : Rect s) (w : r.shape.Idx → Val e) (L : List (View.Piece Val s e)) :
    v.readCov (⟨r, w⟩ :: L) r.toLoadRect = w :=
  funext fun x => View.read_writes_cons_emb v v.junk r w L x

/-- A load off the place just stored reads what was there before. -/
theorem cov_miss (v : View sig κ sp s e) (p : View.Piece Val s e) (B : Rect s) (L : List (View.Piece Val s e)) (h : ∀ x, B.idx x ∉ p.1.set) :
    v.readCov (p :: L) B.toLoadRect = v.readCov L B.toLoadRect :=
  funext fun x => View.read_writes_cons_miss v v.junk p L (B.idx x) (h x)

theorem read_hit (v : View sig κ sp s e) (f : v.ty.Contents Val) (r : Rect s) (w : r.shape.Idx → Val e) (L : List (View.Piece Val s e)) :
    View.ld (v.read Val (v.writes Val f (⟨r, w⟩ :: L))) r = w :=
  funext fun x => View.read_writes_cons_emb v f r w L x

theorem read_miss (v : View sig κ sp s e) (f : v.ty.Contents Val) (p : View.Piece Val s e) (B : Rect s) (L : List (View.Piece Val s e))
    (h : ∀ x, B.idx x ∉ p.1.set) : View.ld (v.read Val (v.writes Val f (p :: L))) B = View.ld (v.read Val (v.writes Val f L)) B :=
  funext fun x => View.read_writes_cons_miss v f p L (B.idx x) (h x)

end Reads

/-- The offset of a whole buffer. -/
theorem z2 : (![0, 0] : Fin 2 → ℕ) = fun _ => 0 := by decide
theorem z3 : (![0, 0, 0] : Fin 3 → ℕ) = fun _ => 0 := by decide

/-- A buffer stored whole last reads the stored value. -/
theorem whole_hit {κ : Kind} {sp : Space} {S : Shape} {e : EltTy} {Val : EltTy → Type} [∀ e, Nonempty (Val e)] (v : View sig κ sp S e) (f : v.ty.Contents Val)
    {off : Fin S.rank → ℕ} (h : off = fun _ => 0) (inb : ∀ a, off a + S.size a ≤ S.size a) (w : S.Idx → Val e) (L : List (View.Piece Val S e)) :
    v.read Val (v.writes Val f (⟨Rect.unit (s := S) off S.size inb, w⟩ :: L)) = w := by
  subst h; funext y
  have e := View.read_writes_cons_emb v f (Rect.whole S) w L y
  rw [Rect.emb_whole_apply] at e
  exact e

section Slots
variable {κ : Kind} {sp : Space} {Val : EltTy → Type} [∀ e, Nonempty (Val e)]

theorem cov_slot0 (v : View sig κ sp S2x512x1024 .f32) (w) (L : List (View.Piece Val S2x512x1024 .f32)) :
    v.readCov (⟨slot1, w⟩ :: L) slot0.toLoadRect = v.readCov L slot0.toLoadRect := cov_miss v ⟨slot1, w⟩ slot0 L slot0_not_mem
theorem cov_slot1 (v : View sig κ sp S2x512x1024 .f32) (w) (L : List (View.Piece Val S2x512x1024 .f32)) :
    v.readCov (⟨slot0, w⟩ :: L) slot1.toLoadRect = v.readCov L slot1.toLoadRect := cov_miss v ⟨slot0, w⟩ slot1 L slot1_not_mem
theorem cov_top0 (v : View sig κ sp S2x1x1024 .f32) (w) (L : List (View.Piece Val S2x1x1024 .f32)) :
    v.readCov (⟨top1, w⟩ :: L) top0.toLoadRect = v.readCov L top0.toLoadRect := cov_miss v ⟨top1, w⟩ top0 L top0_not_mem
theorem cov_top1 (v : View sig κ sp S2x1x1024 .f32) (w) (L : List (View.Piece Val S2x1x1024 .f32)) :
    v.readCov (⟨top0, w⟩ :: L) top1.toLoadRect = v.readCov L top1.toLoadRect := cov_miss v ⟨top0, w⟩ top1 L top1_not_mem
end Slots

end Cert.Kernel2Ideal.Flash

end
-- ==== Proof.TripRun2.lean ====
/- One trip of the kernel's loop: eight chunks of keys are folded in, and the scores of the chunk after them are left ready. -/
module

public import proofs.«01_k».proof.Proof.Payloads2
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

set_option maxHeartbeats 4000000 in
/-- A trip runs, leaving some writes in each of its four buffers. -/
def tripRun (𝒱 : Variants) (c : Dev nD) (bd : Option 𝒱.V) (E : Set ℕ) (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x32x144x256 .bf16) (harg4 : arg4.IsWhole) (arg5 : Memref sig .tc .vmem S1024x128 .f32) (harg5 : arg5.IsWhole) (arg6 : Memref sig .tc .vmem S1x1024 .f32) (harg6 : arg6.IsWhole) (arg7 : Memref sig .tc .vmem S144x1024 .f32) (harg7 : arg7.IsWhole) (arg8 : Memref sig .tc .vmem S2x512x1024 .f32) (harg8 : arg8.IsWhole) (arg9 : Memref sig .tc .vmem S2x1x1024 .f32) (harg9 : arg9.IsWhole)
    (f2 : Buf (Elt F) (arg2.view.loc (c : Thread nD τ))) (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (k : Fin k0_t1_loop.trips) :
    Σ' (L6 : List (View.Piece (Elt F) S1x1024 .f32)) (L7 : List (View.Piece (Elt F) S144x1024 .f32)) (L8 : List (View.Piece (Elt F) S2x512x1024 .f32)), { L9 : List (View.Piece (Elt F) S2x1x1024 .f32) //
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
        ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 k ()) fun _ => iprop(
        (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
        ∗ (arg6.view.loc (c : Thread nD τ) ↦[arg6.view.set]{fullShare} (arg6.view.writes (Elt F) f6 L6)) ∗ (arg7.view.loc (c : Thread nD τ) ↦[arg7.view.set]{fullShare} (arg7.view.writes (Elt F) f7 L7))
        ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9))) } := by
  refine ⟨?_, ?_, ?_, ?_, ?run⟩
  case run =>
    unfold k0_t1_body
    iintro ⟨H2, H3, H4, H6, H7, H8, H9⟩
    sl_exec
    sl_step
    isplitl [H2]; · iexact H2
    isplitl [H3]; · iexact H3
    isplitl [H4]; · iexact H4
    isplitl [H6]; · iexact H6
    isplitl [H7]; · iexact H7
    isplitl [H8]; · iexact H8
    iexact H9

end Cert.Kernel2Ideal.Flash

end
-- ==== Proof.Trip2.lean ====
/- What the writes of one trip leave: the recursion's state eight chunks on. -/
module

public import proofs.«01_k».proof.Proof.TripRun2
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

section Values
variable (𝒱 : Variants) (c : Dev nD) (bd : Option 𝒱.V) (E : Set ℕ) (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x32x144x256 .bf16) (harg4 : arg4.IsWhole) (arg5 : Memref sig .tc .vmem S1024x128 .f32) (harg5 : arg5.IsWhole) (arg6 : Memref sig .tc .vmem S1x1024 .f32) (harg6 : arg6.IsWhole) (arg7 : Memref sig .tc .vmem S144x1024 .f32) (harg7 : arg7.IsWhole) (arg8 : Memref sig .tc .vmem S2x512x1024 .f32) (harg8 : arg8.IsWhole) (arg9 : Memref sig .tc .vmem S2x1x1024 .f32) (harg9 : arg9.IsWhole)
    (f2 : Buf (Elt F) (arg2.view.loc (c : Thread nD τ))) (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (k : Fin k0_t1_loop.trips)
    (h6 : arg6.view.read (Elt F) f6 = mx (arg2.view.read (Elt F) f2) (arg3.view.read (Elt F) f3) (8 * k.val))
    (h7 : arg7.view.read (Elt F) f7 = acc (arg2.view.read (Elt F) f2) (arg3.view.read (Elt F) f3) (arg4.view.read (Elt F) f4) (8 * k.val))
    (h8 : View.ld (arg8.view.read (Elt F) f8) slot0 = scores (arg2.view.read (Elt F) f2) (arg3.view.read (Elt F) f3) (8 * k.val))
    (h9 : View.ld (arg9.view.read (Elt F) f9) top0 = tops (arg2.view.read (Elt F) f2) (arg3.view.read (Elt F) f3) (8 * k.val))

set_option maxHeartbeats 4000000 in
include h6 h7 h8 h9 in
theorem tripRun_6 : arg6.view.read (Elt F) (arg6.view.writes (Elt F) f6 (tripRun (F := F) 𝒱 c bd E i arg2 harg2 arg3 harg3 arg4 harg4 arg5 harg5 arg6 harg6 arg7 harg7 arg8 harg8 arg9 harg9 f2 f3 f4 f6 f7 f8 f9 k).1) = mx (arg2.view.read (Elt F) f2) (arg3.view.read (Elt F) f3) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x128) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

set_option maxHeartbeats 4000000 in
include h6 h7 h8 h9 in
theorem tripRun_7 : arg7.view.read (Elt F) (arg7.view.writes (Elt F) f7 (tripRun (F := F) 𝒱 c bd E i arg2 harg2 arg3 harg3 arg4 harg4 arg5 harg5 arg6 harg6 arg7 harg7 arg8 harg8 arg9 harg9 f2 f3 f4 f6 f7 f8 f9 k).2.1) = acc (arg2.view.read (Elt F) f2) (arg3.view.read (Elt F) f3) (arg4.view.read (Elt F) f4) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x128) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

set_option maxHeartbeats 4000000 in
include h6 h7 h8 h9 in
theorem tripRun_8 : View.ld (arg8.view.read (Elt F) (arg8.view.writes (Elt F) f8 (tripRun (F := F) 𝒱 c bd E i arg2 harg2 arg3 harg3 arg4 harg4 arg5 harg5 arg6 harg6 arg7 harg7 arg8 harg8 arg9 harg9 f2 f3 f4 f6 f7 f8 f9 k).2.2.1)) slot0 = scores (arg2.view.read (Elt F) f2) (arg3.view.read (Elt F) f3) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x128) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

set_option maxHeartbeats 4000000 in
include h6 h7 h8 h9 in
theorem tripRun_9 : View.ld (arg9.view.read (Elt F) (arg9.view.writes (Elt F) f9 (tripRun (F := F) 𝒱 c bd E i arg2 harg2 arg3 harg3 arg4 harg4 arg5 harg5 arg6 harg6 arg7 harg7 arg8 harg8 arg9 harg9 f2 f3 f4 f6 f7 f8 f9 k).2.2.2.1)) top0 = tops (arg2.view.read (Elt F) f2) (arg3.view.read (Elt F) f3) (8 * (k.val + 1)) := by
  unfold tripRun
  dsimp only
  simp -proj only [whole_hit arg6.view f6 z2 inb_S1x1024_S1x1024_0_0, whole_hit arg7.view f7 z2 inb_S144x1024_S144x1024_0_0, read_hit arg8.view f8 slot0, read_hit arg9.view f9 top0, tripRun.sl.H6_1, tripRun.sl.H6_2, tripRun.sl.H6_3, tripRun.sl.H6_4, tripRun.sl.H6_5, tripRun.sl.H6_6, tripRun.sl.H6_7, tripRun.sl.H7_1, tripRun.sl.H7_2, tripRun.sl.H7_3, tripRun.sl.H7_4, tripRun.sl.H7_5, tripRun.sl.H7_6, tripRun.sl.H7_7, tripRun.sl.H8_2, tripRun.sl.H8_3, tripRun.sl.H8_4, tripRun.sl.H8_5, tripRun.sl.H8_6, tripRun.sl.H8_7, tripRun.sl.H8_8, tripRun.sl.H9_2, tripRun.sl.H9_3, tripRun.sl.H9_4, tripRun.sl.H9_5, tripRun.sl.H9_6, tripRun.sl.H9_7, tripRun.sl.H9_8, tripRun.sl.arg10, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_3, tripRun.sl.r_4, tripRun.sl.r_5, tripRun.sl.r_6, tripRun.sl.r_7, tripRun.sl.r_8, tripRun.sl.r_9, tripRun.sl.v106, tripRun.sl.v107, tripRun.sl.v110, tripRun.sl.v132, tripRun.sl.v161, tripRun.sl.v162, tripRun.sl.v165, tripRun.sl.v187, tripRun.sl.v215, tripRun.sl.v216, tripRun.sl.v217, tripRun.sl.v220, tripRun.sl.v242, tripRun.sl.v270, tripRun.sl.v271, tripRun.sl.v272, tripRun.sl.v275, tripRun.sl.v289, tripRun.sl.v290, tripRun.sl.v297, tripRun.sl.v31, tripRun.sl.v326, tripRun.sl.v327, tripRun.sl.v330, tripRun.sl.v352, tripRun.sl.v380, tripRun.sl.v381, tripRun.sl.v382, tripRun.sl.v385, tripRun.sl.v407, tripRun.sl.v417, tripRun.sl.v418, tripRun.sl.v419, tripRun.sl.v420, tripRun.sl.v421, tripRun.sl.v438, tripRun.sl.v439, tripRun.sl.v442, tripRun.sl.v464, tripRun.sl.v50, tripRun.sl.v52, tripRun.sl.v55, View.readAt_eq_ld, cov_hit, cov_slot0, cov_slot1, cov_top0, cov_top1, View.ld_unit_zero (S := S1x1024) z2, View.ld_unit_zero (S := S144x1024) z2, View.ld_unit_zero (S := S1x1024x128) z3, h6, h7, h8, h9, pay12_eq, pay13_eq, pay21_eq, pay22_eq, pay27_eq, pay28_eq, pay35_eq, pay36_eq, pay44_eq, pay46_eq, pay52_eq, pay53_eq, pay58_eq, pay59_eq, pay9_eq, pay19_eq, pay25_eq, pay32_eq, pay42_eq, pay50_eq, pay56_eq, pay70_eq, pay8_eq, pay18_eq, pay24_eq, pay31_eq, pay41_eq, pay49_eq, pay55_eq, pay69_eq, ld_off1_0, ld_off1_1, ld_off1_2, ld_off1_3, ld_off1_4, ld_off1_5, ld_off1_6, ld_off2_0, ld_off2_1, ld_off2_2, ld_off2_3, ld_off2_4, ld_off2_5, ld_off2_6, ld_off2_7, ld_off3_0, ld_off3_1, ld_off3_2, ld_off3_3, ld_off3_4, ld_off3_5, ld_off3_6, ld_off3_7, ld_off3_7', ld_off4]
  simp -proj only [fold_scores, fold_tops, mx_succ, acc_succ, eight, Nat.add_assoc, Nat.reduceAdd, Nat.add_zero]

end Values

end Cert.Kernel2Ideal.Flash

end
-- ==== Proof.Point2.lean ====
/- One grid point of the kernel: from the blocks of queries, keys and values to the block of the result. -/
module

public import proofs.«01_k».proof.Proof.Trip2
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

section Loop
variable (𝒱 : Variants) (c : Dev nD) (bd : Option 𝒱.V) (E : Set ℕ) (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x32x144x256 .bf16) (harg4 : arg4.IsWhole) (arg5 : Memref sig .tc .vmem S1024x128 .f32) (harg5 : arg5.IsWhole) (arg6 : Memref sig .tc .vmem S1x1024 .f32) (harg6 : arg6.IsWhole) (arg7 : Memref sig .tc .vmem S144x1024 .f32) (harg7 : arg7.IsWhole) (arg8 : Memref sig .tc .vmem S2x512x1024 .f32) (harg8 : arg8.IsWhole) (arg9 : Memref sig .tc .vmem S2x1x1024 .f32) (harg9 : arg9.IsWhole)
    (f2 : Buf (Elt F) (arg2.view.loc (c : Thread nD τ))) (f3 : Buf (Elt F) (arg3.view.loc (c : Thread nD τ))) (f4 : Buf (Elt F) (arg4.view.loc (c : Thread nD τ)))

/-- The four facts the loop keeps, under names of their own. -/
@[irreducible] def Has6 (arg6 : Memref sig .tc .vmem S1x1024 .f32) (f6 : Buf (Elt F) (arg6.view.loc (c : Thread nD τ))) (x : Vec F S1x1024 .f32) : Prop :=
  arg6.view.read (Elt F) f6 = x
@[irreducible] def Has7 (arg7 : Memref sig .tc .vmem S144x1024 .f32) (f7 : Buf (Elt F) (arg7.view.loc (c : Thread nD τ))) (x : Vec F S144x1024 .f32) : Prop :=
  arg7.view.read (Elt F) f7 = x
@[irreducible] def Has8 (arg8 : Memref sig .tc .vmem S2x512x1024 .f32) (f8 : Buf (Elt F) (arg8.view.loc (c : Thread nD τ))) (x : Vec F S1x512x1024 .f32) : Prop :=
  View.ld (arg8.view.read (Elt F) f8) slot0 = x
@[irreducible] def Has9 (arg9 : Memref sig .tc .vmem S2x1x1024 .f32) (f9 : Buf (Elt F) (arg9.view.loc (c : Thread nD τ))) (x : Vec F S1x1x1024 .f32) : Prop :=
  View.ld (arg9.view.read (Elt F) f9) top0 = x

/-- Before trip `j` the four working buffers hold the recursion's state after `8 j` chunks. -/
def invAt (j : ℕ) : sProp 𝕄 := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (∃ f6, (arg6.view.loc (c : Thread nD τ) ↦[arg6.view.set]{fullShare} f6) ∗ ⌜Has6 c arg6 f6 (mx (arg2.view.read (Elt F) f2) (arg3.view.read (Elt F) f3) (8 * j))⌝)
    ∗ (∃ f7, (arg7.view.loc (c : Thread nD τ) ↦[arg7.view.set]{fullShare} f7) ∗ ⌜Has7 c arg7 f7 (acc (arg2.view.read (Elt F) f2) (arg3.view.read (Elt F) f3) (arg4.view.read (Elt F) f4) (8 * j))⌝)
    ∗ (∃ f8, (arg8.view.loc (c : Thread nD τ) ↦[arg8.view.set]{fullShare} f8) ∗ ⌜Has8 c arg8 f8 (scores (arg2.view.read (Elt F) f2) (arg3.view.read (Elt F) f3) (8 * j))⌝)
    ∗ (∃ f9, (arg9.view.loc (c : Thread nD τ) ↦[arg9.view.set]{fullShare} f9) ∗ ⌜Has9 c arg9 f9 (tops (arg2.view.read (Elt F) f2) (arg3.view.read (Elt F) f3) (8 * j))⌝))

set_option maxHeartbeats 4000000 in
theorem inv_step (k : Fin k0_t1_loop.trips) :
    invAt c arg2 arg3 arg4 arg6 arg7 arg8 arg9 f2 f3 f4 k.val
      ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 k ())
          fun _ => invAt c arg2 arg3 arg4 arg6 arg7 arg8 arg9 f2 f3 f4 (k.val + 1) := by
  unfold invAt
  iintro ⟨H2, H3, H4, ⟨%f6, H6, %h6⟩, ⟨%f7, H7, %h7⟩, ⟨%f8, H8, %h8⟩, ⟨%f9, H9, %h9⟩⟩
  unfold Has6 at h6; unfold Has7 at h7; unfold Has8 at h8; unfold Has9 at h9
  iapply (wp_wand_r Idealize.ShloMosaic.frame (wpE (defs₀ (F := F)) 𝒱 (c : Thread nD τ) bd) E)
  isplitl [H2 H3 H4 H6 H7 H8 H9]
  · iapply (tripRun (F := F) 𝒱 c bd E i arg2 harg2 arg3 harg3 arg4 harg4 arg5 harg5 arg6 harg6 arg7 harg7 arg8 harg8 arg9 harg9 f2 f3 f4 f6 f7 f8 f9 k).2.2.2.2
    isplitl [H2]; · iexact H2
    isplitl [H3]; · iexact H3
    isplitl [H4]; · iexact H4
    isplitl [H6]; · iexact H6
    isplitl [H7]; · iexact H7
    isplitl [H8]; · iexact H8
    iexact H9
  · iintro %_ ⟨H2, H3, H4, H6, H7, H8, H9⟩
    isplitl [H2]; · iexact H2
    isplitl [H3]; · iexact H3
    isplitl [H4]; · iexact H4
    isplitl [H6]
    · iexists _; isplitl [H6]; · iexact H6
      ipureintro; unfold Has6; exact tripRun_6 𝒱 c bd E i arg2 harg2 arg3 harg3 arg4 harg4 arg5 harg5 arg6 harg6 arg7 harg7 arg8 harg8 arg9 harg9 f2 f3 f4 f6 f7 f8 f9 k h6 h7 h8 h9
    isplitl [H7]
    · iexists _; isplitl [H7]; · iexact H7
      ipureintro; unfold Has7; exact tripRun_7 𝒱 c bd E i arg2 harg2 arg3 harg3 arg4 harg4 arg5 harg5 arg6 harg6 arg7 harg7 arg8 harg8 arg9 harg9 f2 f3 f4 f6 f7 f8 f9 k h6 h7 h8 h9
    isplitl [H8]
    · iexists _; isplitl [H8]; · iexact H8
      ipureintro; unfold Has8; exact tripRun_8 𝒱 c bd E i arg2 harg2 arg3 harg3 arg4 harg4 arg5 harg5 arg6 harg6 arg7 harg7 arg8 harg8 arg9 harg9 f2 f3 f4 f6 f7 f8 f9 k h6 h7 h8 h9
    iexists _; isplitl [H9]; · iexact H9
    ipureintro; unfold Has9; exact tripRun_9 𝒱 c bd E i arg2 harg2 arg3 harg3 arg4 harg4 arg5 harg5 arg6 harg6 arg7 harg7 arg8 harg8 arg9 harg9 f2 f3 f4 f6 f7 f8 f9 k h6 h7 h8 h9

set_option warn.classDefReducibility false in
/-- The loop goes through by `invAt`. -/
def loopInv : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9) where
  inv j _ := invAt c arg2 arg3 arg4 arg6 arg7 arg8 arg9 f2 f3 f4 j
  step k _ := inv_step 𝒱 c bd E i arg2 harg2 arg3 harg3 arg4 harg4 arg5 harg5 arg6 harg6 arg7 harg7 arg8 harg8 arg9 harg9 f2 f3 f4 k

theorem out_of (f5 : Buf (Elt F) (arg5.view.loc (c : Thread nD τ))) (f7 : Buf (Elt F) (arg7.view.loc (c : Thread nD τ)))
    (Q : Vec F S1x1024x128 .bf16) (K : Vec F S1x8192x128 .bf16) (V : Vec F S1x32x144x256 .bf16) (h : Has7 c arg7 f7 (acc Q K V (8 * k0_t1_loop.trips))) :
    arg5.view.read (Elt F) (arg5.view.writes (Elt F) f5 [⟨Rect.unit (s := S1024x128) ![0, 0] S1024x128.size inb_S1024x128_S1024x128_0_0,
      k0_pay1 (k0_pay71 (arg7.view.readAt (Elt F) (Rect.unit (s := S144x1024) ![0, 0] S144x1024.size inb_S144x1024_S144x1024_0_0).toLoadRect f7))
        (k0_pay72 (arg7.view.readAt (Elt F) (Rect.unit (s := S144x1024) ![0, 0] S144x1024.size inb_S144x1024_S144x1024_0_0).toLoadRect f7))⟩])
      = out Q K V := by
  have e : arg7.view.readAt (Elt F) (Rect.unit (s := S144x1024) ![0, 0] S144x1024.size inb_S144x1024_S144x1024_0_0).toLoadRect f7
      = arg7.view.read (Elt F) f7 := View.ld_unit_zero (S := S144x1024) z2 _ _
  unfold Has7 at h
  rw [whole_hit _ _ z2, e, h]; rfl

set_option maxHeartbeats 4000000 in
/-- A point's run: the inputs are kept, the result's block is `out` of them. -/
theorem point (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (Kp : PUnit → sProp 𝕄) :
    iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))
      ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
        ∗ (∃ f, (arg5.view.loc (c : Thread nD τ) ↦[arg5.view.set]{fullShare} f) ∗ ⌜arg5.view.read (Elt F) f = out (arg2.view.read (Elt F) f2) (arg3.view.read (Elt F) f3) (arg4.view.read (Elt F) f4)⌝)
        ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ Kp ⟨⟩))
      ⊢ wp Idealize.ShloMosaic.frame (wpE (defs₀ (F := F)) 𝒱 (c : Thread nD τ) bd) E (cc0_flash (F := F) i arg2 harg2 arg3 harg3 arg4 harg4 arg5 harg5 arg6 harg6 arg7 harg7 arg8 harg8 arg9 harg9) Kp := by
  have key0 : arg3.view.readAt (Elt F) (Rect.unit (s := S1x8192x128) ![0, 0, 0] S1x512x128.size inb_S1x8192x128_S1x512x128_0_0_0).toLoadRect f3
      = keys (arg3.view.read (Elt F) f3) 0 := ld_unit_congr (arg3.view.read (Elt F) f3) rfl _ _
  have query0 : arg2.view.readAt (Elt F) (Rect.unit (s := S1x1024x128) ![0, 0, 0] S1x1024x128.size inb_S1x1024x128_S1x1024x128_0_0_0).toLoadRect f2
      = arg2.view.read (Elt F) f2 := View.ld_unit_zero (S := S1x1024x128) z3 _ _
  let L := loopInv 𝒱 c bd E i arg2 harg2 arg3 harg3 arg4 harg4 arg5 harg5 arg6 harg6 arg7 harg7 arg8 harg8 arg9 harg9 f2 f3 f4
  have e6 : Has6 c arg6 (arg6.view.writes (Elt F) arg6.view.junk
      [⟨Rect.unit (s := S1x1024) ![0, 0] S1x1024.size inb_S1x1024_S1x1024_0_0, k0_pay64 (F := F)⟩])
      (mx (arg2.view.read (Elt F) f2) (arg3.view.read (Elt F) f3) (8 * 0)) := by
    unfold Has6; exact whole_hit _ _ z2 _ _ _
  have e7 : Has7 c arg7 (arg7.view.writes (Elt F) arg7.view.junk
      [⟨Rect.unit (s := S144x1024) ![0, 0] S144x1024.size inb_S144x1024_S144x1024_0_0, k0_pay65 (F := F)⟩])
      (acc (arg2.view.read (Elt F) f2) (arg3.view.read (Elt F) f3) (arg4.view.read (Elt F) f4) (8 * 0)) := by
    unfold Has7; exact whole_hit _ _ z2 _ _ _
  have e8 : Has8 c arg8 (arg8.view.writes (Elt F) f8
      [⟨Rect.unit (s := S2x512x1024) ![0, 0, 0] S1x512x1024.size inb_S2x512x1024_S1x512x1024_0_0_0,
        k0_pay67 (keys (arg3.view.read (Elt F) f3) 0) (arg2.view.read (Elt F) f2)⟩])
      (scores (arg2.view.read (Elt F) f2) (arg3.view.read (Elt F) f3) (8 * 0)) := by
    unfold Has8; rw [read_hit]; rfl
  have e9 : Has9 c arg9 (arg9.view.writes (Elt F) f9
      [⟨Rect.unit (s := S2x1x1024) ![0, 0, 0] S1x1x1024.size inb_S2x1x1024_S1x1x1024_0_0_0,
        k0_pay68 (keys (arg3.view.read (Elt F) f3) 0) (arg2.view.read (Elt F) f2)⟩])
      (tops (arg2.view.read (Elt F) f2) (arg3.view.read (Elt F) f3) (8 * 0)) := by
    unfold Has9; rw [read_hit]; rfl
  simp only [cc0_flash_eq_skeleton]; unfold cc0_flash_skel
  iintro ⟨⟨H2, H3, H4, H5, H6, H7, H8, H9⟩, Hk⟩
  sl_exec
  sl_step
  iapply Hk
  isplitl [H2]; · iexact H2
  isplitl [H3]; · iexact H3
  isplitl [H4]; · iexact H4
  isplitl [H5]
  · iexists _; isplitl [H5]; · iexact H5
    ipureintro; exact out_of c arg5 arg7 f5 _ _ _ _ hL6
  isplitl [H6]; · iexists _; iexact H6
  isplitl [H7]; · iexists _; iexact H7
  isplitl [H8]; · iexists _; iexact H8
  iexists _; iexact H9
end Loop

end Cert.Kernel2Ideal.Flash

end
-- ==== Proof.Launch2.lean ====
/- The kernel's launch: every grid point keeps its inputs and leaves `out` of them in the result's block. -/
module

public import proofs.«01_k».proof.Proof.Point2
public import proofs.«01_k».proof.Proof.Gen.Kernel2Ideal.Frame
public import Idealize.ShloMosaic.Lib.Pipeline.KitQuiescent
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held outright is held through its whole view. -/
theorem held (c : Dev nD) (b : Ref sig .tc) (f : Buf (Elt F) ((c : Thread nD τ).loc b)) :
    (iprop(((c : Thread nD τ).loc b) ↦{fullShare} f) : sProp 𝕄)
      = iprop((Memref.whole b).view.loc (c : Thread nD τ) ↦[(Memref.whole b).view.set]{fullShare} f) := by
  have e : (Memref.whole b).view.set = Finset.univ := View.set_whole _
  rw [e]

set_option maxHeartbeats 1000000 in
/-- A point's run, the working buffers at whatever contents they hold. -/
theorem sound (𝒱 : Variants) (c : Dev nD) (bd : Option 𝒱.V) (E : Set ℕ) (i : grid0.Coords) (arg2 : Memref sig .tc .vmem S1x1024x128 .bf16) (harg2 : arg2.IsWhole)
    (arg3 : Memref sig .tc .vmem S1x8192x128 .bf16) (harg3 : arg3.IsWhole) (arg4 : Memref sig .tc .vmem S1x32x144x256 .bf16) (harg4 : arg4.IsWhole)
    (arg5 : Memref sig .tc .vmem S1024x128 .f32) (harg5 : arg5.IsWhole) (Q K V) (Kp : PUnit → sProp 𝕄) :
    iprop(Pipeline.ΦA spec0 c ∗ owns (c : Thread nD τ) arg2 fullShare Q ∗ owns (c : Thread nD τ) arg3 fullShare K ∗ owns (c : Thread nD τ) arg4 fullShare V
        ∗ (∃ d, owns (c : Thread nD τ) arg5 fullShare d)
        ∗ (iprop(Pipeline.ΦA spec0 c ∗ owns (c : Thread nD τ) arg2 fullShare Q ∗ owns (c : Thread nD τ) arg3 fullShare K ∗ owns (c : Thread nD τ) arg4 fullShare V
            ∗ owns (c : Thread nD τ) arg5 fullShare (out Q K V)) -∗ Kp ⟨⟩))
      ⊢ wp Idealize.ShloMosaic.frame (wpE (defs₀ (F := F)) 𝒱 (c : Thread nD τ) bd) E (cc0_flash (F := F) i arg2 harg2 arg3 harg3 arg4 harg4 arg5 harg5
          (Memref.whole cc0_scratch0) (Memref.isWhole_whole _) (Memref.whole cc0_scratch1) (Memref.isWhole_whole _)
          (Memref.whole cc0_scratch2) (Memref.isWhole_whole _) (Memref.whole cc0_scratch3) (Memref.isWhole_whole _)) Kp := by
  unfold owns Pipeline.ΦA
  rw [scopedRest0_eq]
  simp only [held]
  iintro ⟨⟨⟨⟨%g0, G0⟩, ⟨%g1, G1⟩, ⟨%g2, G2⟩, ⟨%g3, G3⟩⟩, HR⟩, ⟨%f2, %h2, H2⟩, ⟨%f3, %h3, H3⟩, ⟨%f4, %h4, H4⟩, ⟨%d5, %f5, -, H5⟩, Hk⟩
  subst h2; subst h3; subst h4
  iapply (point 𝒱 c bd E i arg2 harg2 arg3 harg3 arg4 harg4 arg5 harg5 (Memref.whole cc0_scratch0) (Memref.isWhole_whole _) (Memref.whole cc0_scratch1)
    (Memref.isWhole_whole _) (Memref.whole cc0_scratch2) (Memref.isWhole_whole _) (Memref.whole cc0_scratch3) (Memref.isWhole_whole _) f2 f3 f4 f5 g0 g1 g2 g3 Kp)
  isplitl [H2 H3 H4 H5 G0 G1 G2 G3]
  · isplitl [H2]; · iexact H2
    isplitl [H3]; · iexact H3
    isplitl [H4]; · iexact H4
    isplitl [H5]; · iexact H5
    isplitl [G0]; · iexact G0
    isplitl [G1]; · iexact G1
    isplitl [G2]; · iexact G2
    iexact G3
  · iintro ⟨H2, H3, H4, ⟨%o, H5, %ho⟩, G0, G1, G2, G3⟩
    iapply Hk
    isplitl [G0 G1 G2 G3 HR]
    · isplitl [G0 G1 G2 G3]
      · isplitl [G0]; · iexact G0
        isplitl [G1]; · iexact G1
        isplitl [G2]; · iexact G2
        iexact G3
      · iexact HR
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists o; isplitr; · ipureintro; exact ho
    iexact H5

/-- The launch's proof data: the inputs' blocks stay, the result's block becomes `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t)
    | ⟨_ + 4, h⟩ => absurd h (Nat.not_lt.2 (Nat.le_add_left _ _))
  Φ _ := Pipeline.ΦA spec0 c
  q _ := fullShare
  owed _ := 0

variable (c : Dev nD) (t : Fin cfg0.N)
theorem A_eq (w : Fin cfg0.W) : (dats m 0 c).A w = V m c (Pipeline.arrRef spec0 w) := rfl
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = out (iblk m c 0 t) (iblk m c 1 t) (iblk m c 2 t) := by dsimp only [dats]
theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d

/-- What the body finds at a point, and what it leaves. -/
def bodyPre : sProp 𝕄 := iprop((dats m 0 c).Φ t.castSucc ∗ (dats m 0 c).owesAt () t.castSucc
  ∗ (∃ d, owns (c : Thread nD τ) (st0_0 t) fullShare ((dats m 0 c).before 0 t d)) ∗ (∃ d, owns (c : Thread nD τ) (st0_1 t) fullShare ((dats m 0 c).before 1 t d))
  ∗ (∃ d, owns (c : Thread nD τ) (st0_2 t) fullShare ((dats m 0 c).before 2 t d)) ∗ (∃ d, owns (c : Thread nD τ) (st0_3 t) fullShare ((dats m 0 c).before 3 t d)))
def bodyPost : sProp 𝕄 := iprop((dats m 0 c).Φ t.succ ∗ (dats m 0 c).owesAt () t.succ
  ∗ owns (c : Thread nD τ) (st0_0 t) fullShare ((dats m 0 c).after 0 t) ∗ owns (c : Thread nD τ) (st0_1 t) fullShare ((dats m 0 c).after 1 t)
  ∗ owns (c : Thread nD τ) (st0_2 t) fullShare ((dats m 0 c).after 2 t) ∗ owns (c : Thread nD τ) (st0_3 t) fullShare ((dats m 0 c).after 3 t))

set_option maxHeartbeats 1000000 in
theorem sound_body : bodyPre m c t ⊢ wp Idealize.ShloMosaic.frame (wpE (defs₀ (F := F)) Variants.none (c : Thread nD τ) none) Set.univ (bodyAt0 (F := F) t) (fun _ => bodyPost m c t) := by
  unfold bodyPre bodyPost
  simp only [before0_0, before0_1, before0_2]
  rw [show (dats m 0 c).Φ t.succ = (dats m 0 c).Φ t.castSucc from rfl, show (dats m 0 c).owesAt () t.succ = (dats m 0 c).owesAt () t.castSucc from rfl,
    after0_0, after0_1, after0_2, after0_3]
  rw [show (dats m 0 c).Φ t.castSucc = Pipeline.ΦA spec0 c from rfl]
  iintro ⟨HΦ, Ho, ⟨%d0, H0⟩, ⟨%d1, H1⟩, ⟨%d2, H2⟩, ⟨%d3, H3⟩⟩
  iapply (sound Variants.none c none Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (iblk m c 0 t) (iblk m c 1 t) (iblk m c 2 t))
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · iexact H0
  isplitl [H1]; · iexact H1
  isplitl [H2]; · iexact H2
  iexact H3

theorem body_obligation : BodyObligation (dats (F := F) m 0 c) (defs₀ (F := F)) Variants.none () Set.univ := fun t => by
  rw [bigSep_W0, bigSep_W0]; exact sound_body m c t

set_option backward.isDefEq.respectTransparency.types false in
/-- The whole program runs: the arrays end at the launch's, all else as before it, every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (Q' := fun r => Pipeline.FramePost cfgs (dats m) 0 (V m) r ∧ r.2.sem = fun _ => 0)
    (hbody := fun c => (body_obligation m c).loose) (hshare := fun c => (dats m 0 c).share_full fun _ => rfl)
    (howed := fun _ _ => rfl) (V := V m) (hmain := hmain m Variants.none) (hA := fun _ _ => rfl) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.Kernel2Ideal.Flash

end
-- ==== Proof.Frames2.lean ====
/- Each program runs, leaves its arguments as they were and every semaphore at zero. -/
module

public import proofs.«01_k».proof.Defs
public import proofs.«01_k».proof.Proof.Gen.Kernel2
public import proofs.«01_k».proof.Proof.Gen.Reference2Ideal.Run
public import proofs.«01_k».proof.Proof.Launch2
public import Idealize.ShloMosaic.Adequacy
public import Idealize.ShloMosaic.Init

@[expose] public section

noncomputable section

namespace Cert.Kernel2Ideal.Flash

open Idealize.ShloMosaic Idealize.ShloMosaic.TcCoe Idealize.SL.Sem Cert.Kernel2Ideal.Gen

variable {F : FTy → Type} [FloatOps F]

/-- The run, read at the result and at the arguments. -/
theorem run_post (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v16) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

/-- The run, read at the arguments alone. -/
theorem frame_post (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_post m ρ)

end Cert.Kernel2Ideal.Flash

namespace Cert.Proof

open Idealize.ShloMosaic Idealize.SL.Sem

theorem frame_kernel2Ideal : Cert.quiescent_Kernel2Ideal := fun m ρ _ => Cert.Kernel2Ideal.Flash.frame_post (F := Ideal) m ρ

/-- The two kernel programs have the same text: their tables of bodies are one. -/
theorem bodies_eq2 : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext l p
  match l, p with
  | 0, (t, s) => rfl

theorem defs_eq2 : @Cert.Kernel2.defs Bits _ Cert.Kernel2.Gen.facts = @Cert.Kernel2Ideal.defs Bits _ Cert.Kernel2Ideal.Gen.facts :=
  congrArg (Pipeline.defs (Cert.Kernel2Ideal.pcfgs (F := Bits))) bodies_eq2

/-- So the one run serves both. -/
theorem frame_kernel2 : Cert.quiescent_Kernel2 := fun m ρ _ => by
  have h := Cert.Kernel2Ideal.Flash.frame_post (F := Bits) m ρ
  rw [← defs_eq2] at h
  exact h

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run (F := Ideal) m ρ)

end Cert.Proof

end
-- ==== Proof.Operands2.lean ====
/- The grouped heads' operands, as the host operations before the launch make them, read at an index. -/
module

public import proofs.«01_k».proof.Proof.Launch2
public import Idealize.ShloMosaic.Lib.Pointwise
public import Idealize.ShloMosaic.Lib.Claim

@[expose] public section

set_option maxRecDepth 16384

noncomputable section

namespace Cert.Kernel2Ideal.Flash

open Idealize.ShloMosaic Idealize.ShloMosaic.TcCoe Idealize.SL.Sem Cert.Kernel2Ideal.Gen

variable (m : (ℓ : Loc nD τ sig) → Buf (Elt Ideal) ℓ) (c : Dev nD)

/-- The scale the kernel's queries carry. -/
def scale : EReal := Ideal.div (Ideal.ofBits .f32 0x3DB504F3#32) (Ideal.log (Ideal.ofBits .f32 0x40000000#32))

/-- The program's arguments. -/
def argQ : FVec Ideal S8192x4x128 .f32 := m ((c : Thread nD τ).loc main_arg0)
def argK : FVec Ideal S8192x2x128 .f32 := m ((c : Thread nD τ).loc main_arg1)
def argV : FVec Ideal S8192x2x128 .f32 := m ((c : Thread nD τ).loc main_arg2)

/-- The launch's operands. -/
def opQ : FVec Ideal S4x8192x128 .bf16 := V m c main_v11
def opK : FVec Ideal S2x8192x128 .bf16 := V m c main_v14
def opV : FVec Ideal S2x32x144x256 .bf16 := V m c main_v15

theorem k_at (h : Fin 2) (i : Fin 8192) (x : Fin 128) :
    opK m c (ix3 h i x) = argK m c (ix3 i h x) := by
  unfold opK V hostOps0 hostOps0_1 hostOps0_2 hostOps0_3 hostOps0_4
  simp only [List.flatten_cons, List.flatten_nil, List.cons_append, List.nil_append]
  after_results
  simp only [StableHlo.TRef.ofBuf_toBuf]
  unfold StableHlo.TRef.toBuf StableHlo.TRef.ofBuf
  simp only [cast_eq]
  unfold argK
  pointwise [scale]
  done

theorem q_at (h : Fin 4) (i : Fin 8192) (x : Fin 128) :
    opQ m c (ix3 h i x) = argQ m c (ix3 i h x) * scale := by
  unfold opQ V hostOps0 hostOps0_1 hostOps0_2 hostOps0_3 hostOps0_4
  simp only [List.flatten_cons, List.flatten_nil, List.cons_append, List.nil_append]
  after_results
  simp only [StableHlo.TRef.ofBuf_toBuf]
  unfold StableHlo.TRef.toBuf StableHlo.TRef.ofBuf
  simp only [cast_eq]
  unfold argQ
  pointwise [scale]
  done

/-- The values in blocks of 256 columns, over a row of ones and fifteen of zeros. -/
def cat (a : FVec Ideal S2x32x128x256 .f32) (b : FVec Ideal S2x32x1x256 .f32) (d : FVec Ideal S2x32x15x256 .f32) : FVec Ideal S2x32x144x256 .bf16 :=
  truncf .bf16 (concatenate S2x32x144x256 2 [⟨S2x32x128x256, a⟩, ⟨S2x32x1x256, b⟩, ⟨S2x32x15x256, d⟩]
    concatenates_S2x32x128x256_S2x32x1x256_S2x32x15x256_S2x32x144x256_d2) bitsLt_bf16_f32

theorem cat_congr {a a' : FVec Ideal S2x32x128x256 .f32} {b b' : FVec Ideal S2x32x1x256 .f32} {d d' : FVec Ideal S2x32x15x256 .f32}
    (ha : a = a') (hb : b = b') (hd : d = d') : cat a b d = cat a' b' d' := by
  rw [ha, hb, hd]

theorem opV_eq : ∃ d, opV m c = cat
    (transpose S2x32x128x256 [2, 0, 3, 1] (shapeCast S32x256x2x128 (argV m c) shapeCasts_S8192x2x128_S32x256x2x128) transposes_S32x256x2x128_S2x32x128x256_2_0_3_1)
    (broadcastInDim S2x32x1x256 ![] bcast_S_S2x32x1x256 (constant S_ .f32 0x3F800000#32)) d := by
  refine ⟨broadcastInDim S2x32x15x256 ![] bcast_S_S2x32x15x256 (constant S_ .f32 0x00000000#32), ?_⟩
  unfold opV argV V hostOps0 hostOps0_1 hostOps0_2 hostOps0_3 hostOps0_4
  simp only [List.flatten_cons, List.flatten_nil, List.cons_append, List.nil_append]
  after_results
  refine cat_congr ?_ ?_ ?_
  all_goals dsimp only [Matrix.cons_val]
  all_goals rfl

theorem v_at (h : Fin 2) (n : Fin 32) (d : Fin 144) (x : Fin 256) (hd : d.val < 128) :
    opV m c (ix4 h n d x) = argV m c (ix3 ⟨256 * n.val + x.val, by omega⟩ h ⟨d.val, hd⟩) := by
  obtain ⟨z, e⟩ := opV_eq m c
  rw [e]
  pointwise [cat]
  rw [dif_pos hd]
  congr 2
  exact Fin.ext (by show n.val * 256 + x.val = 256 * n.val + x.val; omega)

theorem ones_at (h : Fin 2) (n : Fin 32) (x : Fin 256) : opV m c (ix4 h n 128 x) = 1 := by
  obtain ⟨z, e⟩ := opV_eq m c
  rw [e]
  pointwise [cat]
  done

end Cert.Kernel2Ideal.Flash

end
-- ==== Proof.Column2.lean ====
/- The recursion of one grid point read at one query and one value row. -/
module

public import proofs.«01_k».proof.Proof.Steps2
public import proofs.«01_k».proof.Proof.Online
public import Idealize.ShloMosaic.Lib.Pointwise
public import Idealize.ShloMosaic.Lib.Claim

@[expose] public section

set_option maxRecDepth 16384

noncomputable section

namespace Cert.Kernel2Ideal.Flash

open Idealize.ShloMosaic Idealize.ShloMosaic.TcCoe Idealize.SL.Sem Cert.Kernel2Ideal.Gen

theorem ofBits_bot : Ideal.ofBits FTy.f32 0xFF800000#32 = (⊥ : EReal) := by
  simp [Ideal.ofBits, Ideal.ieee]

variable (Q : FVec Ideal S1x1024x128 .bf16) (K : FVec Ideal S1x8192x128 .bf16) (V : FVec Ideal S1x32x144x256 .bf16)

theorem pay3_at (X : FVec Ideal S1x512x128 .bf16) (k : Fin 512) (r : Fin 1024) :
    k0_pay3 (F := Ideal) X Q (ix3 0 k r) = ∑ x : Fin 128, X (ix3 0 k x) * Q (ix3 0 r x) := by
  pointwise [k0_pay3, k0_pay2]

theorem pay4_at (X : FVec Ideal S1x512x128 .bf16) (r : Fin 1024) :
    k0_pay4 (F := Ideal) X Q (ix3 0 0 r)
      = Finset.univ.fold max ⊥ (fun k : Fin 512 => ∑ x : Fin 128, X (ix3 0 k x) * Q (ix3 0 r x)) := by
  pointwise [k0_pay4, k0_pay2]
  simp only [ofBits_bot]

theorem pay5_at (a : FVec Ideal S1x1024 .f32) (b : FVec Ideal S1x1x1024 .f32) (r : Fin 1024) :
    k0_pay9 (F := Ideal) (k0_pay5 a b) (ix2 0 r) = max (a (ix2 0 r)) (b (ix3 0 0 r)) := by
  pointwise [k0_pay9, k0_pay5]

theorem pay8_at (a : FVec Ideal S1x1024 .f32) (b : FVec Ideal S1x1x1024 .f32) (s : FVec Ideal S1x512x1024 .f32)
    (u w : FVec Ideal S1x1x144x256 .bf16) (z : FVec Ideal S144x1024 .f32) (d : Fin 144) (r : Fin 1024) :
    k0_pay8 (F := Ideal) (k0_pay6 a b s) (k0_pay7 a b) u w z (ix2 d r)
      = Ideal.exp2 (a (ix2 0 r) - max (a (ix2 0 r)) (b (ix3 0 0 r))) * z (ix2 d r)
        + (∑ x : Fin 256, u (ix4 0 0 d x) * Ideal.exp2 (s (ix3 0 ⟨x.val, by omega⟩ r) - max (a (ix2 0 r)) (b (ix3 0 0 r)))
          + ∑ x : Fin 256, w (ix4 0 0 d x) * Ideal.exp2 (s (ix3 0 ⟨256 + x.val, by omega⟩ r) - max (a (ix2 0 r)) (b (ix3 0 0 r)))) := by
  pointwise [k0_pay8, k0_pay7, k0_pay6, k0_pay5]
  rfl

theorem pay1_at (z : FVec Ideal S144x1024 .f32) (r : Fin 1024) (d : Fin 128) :
    k0_pay1 (F := Ideal) (k0_pay71 z) (k0_pay72 z) (ix2 r d) = Ideal.div (z (ix2 ⟨d.val, by omega⟩ r)) (z (ix2 128 r)) := by
  pointwise [k0_pay1, k0_pay71, k0_pay72]

theorem mx_zero_at (r : Fin 1024) : mx (F := Ideal) Q K 0 (ix2 0 r) = ⊥ := by
  pointwise [mx, k0_pay64]
  exact ofBits_bot

theorem acc_zero_at (d : Fin 144) (r : Fin 1024) : acc (F := Ideal) Q K V 0 (ix2 d r) = 0 := by
  pointwise [acc, k0_pay65]

theorem keys_at (n : ℕ) (hn : n < 16) (k : Fin 512) (x : Fin 128) :
    keys (F := Ideal) K n (ix3 0 k x) = K (ix3 0 ⟨512 * n + k.val, by omega⟩ x) := by
  pointwise [keys]
  simp only [Nat.mod_eq_of_lt hn]

theorem vals_at (n : ℕ) (hn : n < 32) (d : Fin 144) (x : Fin 256) :
    vals (F := Ideal) V n (ix4 0 0 d x) = V (ix4 0 ⟨n, hn⟩ d x) := by
  pointwise [vals]
  simp only [Nat.mod_eq_of_lt hn]

/-- The score of key `k` at query `r`. -/
def score (k : Fin 8192) (r : Fin 1024) : EReal := ∑ x : Fin 128, K (ix3 0 k x) * Q (ix3 0 r x)

theorem scores_at (n : ℕ) (hn : n < 16) (k : Fin 512) (r : Fin 1024) :
    scores (F := Ideal) Q K n (ix3 0 k r) = score Q K ⟨512 * n + k.val, by omega⟩ r := by
  rw [scores, pay3_at]
  simp only [keys_at K n hn, score]

theorem tops_at (n : ℕ) (hn : n < 16) (r : Fin 1024) :
    tops (F := Ideal) Q K n (ix3 0 0 r)
      = Finset.univ.fold max ⊥ (fun k : Fin 512 => score Q K ⟨512 * n + k.val, by omega⟩ r) := by
  rw [tops, pay4_at]
  simp only [keys_at K n hn, score]

theorem mx_succ_at (n : ℕ) (r : Fin 1024) :
    mx (F := Ideal) Q K (n + 1) (ix2 0 r) = max (mx (F := Ideal) Q K n (ix2 0 r)) (tops (F := Ideal) Q K n (ix3 0 0 r)) :=
  pay5_at _ _ r

/-- After at least one chunk of real scores the running maximum is a real. -/
theorem mx_real (r : Fin 1024) (s : ℕ → ℝ) (hs : ∀ k : Fin 8192, score Q K k r = s k.val) :
    ∀ n < 16, ∃ a : ℝ, mx (F := Ideal) Q K (n + 1) (ix2 0 r) = a := by
  intro n
  induction n with
  | zero =>
    intro hn
    obtain ⟨b, hb⟩ := Online.fold_max_real (Finset.univ : Finset (Fin 512)) ⟨0, Finset.mem_univ _⟩ fun k => s (512 * 0 + k.val)
    refine ⟨b, ?_⟩
    rw [mx_succ_at, mx_zero_at, tops_at Q K 0 hn]
    simp only [hs]
    rw [hb]; exact max_eq_right bot_le
  | succ n ih =>
    intro hn
    obtain ⟨a, ha⟩ := ih (by omega)
    obtain ⟨b, hb⟩ := Online.fold_max_real (Finset.univ : Finset (Fin 512)) ⟨0, Finset.mem_univ _⟩ fun k => s (512 * (n + 1) + k.val)
    refine ⟨max a b, ?_⟩
    rw [mx_succ_at, ha, tops_at Q K (n + 1) hn]
    simp only [hs]
    rw [hb]; exact (EReal.coe_strictMono.monotone.map_max).symm

/-- Value row `d` at key `k`. -/
def val (d : Fin 144) (k : ℕ) : EReal := V (ix4 0 ⟨k / 256 % 32, Nat.mod_lt _ (by norm_num)⟩ d ⟨k % 256, Nat.mod_lt _ (by norm_num)⟩)

theorem val_chunk (d : Fin 144) (n : ℕ) (hn : n < 16) (x : Fin 256) :
    vals (F := Ideal) V (2 * n) (ix4 0 0 d x) = val V d (512 * n + x.val) := by
  rw [vals_at V (2 * n) (by omega), val]
  congr 2
  · exact Fin.ext (by show 2 * n = (512 * n + x.val) / 256 % 32; omega)
  · exact Fin.ext (by show x.val = (512 * n + x.val) % 256; omega)

theorem val_chunk' (d : Fin 144) (n : ℕ) (hn : n < 16) (x : Fin 256) :
    vals (F := Ideal) V (2 * n + 1) (ix4 0 0 d x) = val V d (512 * n + (256 + x.val)) := by
  rw [vals_at V (2 * n + 1) (by omega), val]
  congr 2
  · exact Fin.ext (by show 2 * n + 1 = (512 * n + (256 + x.val)) / 256 % 32; omega)
  · exact Fin.ext (by show x.val = (512 * n + (256 + x.val)) % 256; omega)

/-- The running sum after the last chunk: every key's value at its weight. -/
theorem acc_at (r : Fin 1024) (d : Fin 144) (s : ℕ → ℝ) (hs : ∀ k : Fin 8192, score Q K k r = s k.val) :
    acc (F := Ideal) Q K V 16 (ix2 d r)
      = ∑ k : Fin 8192, val V d k.val * Ideal.exp2 (s k.val - mx (F := Ideal) Q K 16 (ix2 0 r)) := by
  refine (Online.online s (val V d) (fun n => mx (F := Ideal) Q K n (ix2 0 r)) (fun n => acc (F := Ideal) Q K V n (ix2 d r)) 16
    (mx_real Q K r s hs) (acc_zero_at Q K V d r) (fun n hn => ?_) 16 le_rfl).trans (Finset.sum_range _)
  refine (pay8_at _ _ _ _ _ _ d r).trans ?_
  simp only [← mx_succ_at, val_chunk V d n hn, val_chunk' V d n hn, scores_at Q K n hn, hs]

/-- The block left by the point, at a query and a value coordinate: softmax attention over all the keys. -/
theorem out_at (r : Fin 1024) (d : Fin 128) (s x : ℕ → ℝ) (b : ℝ) (hs : ∀ k : Fin 8192, score Q K k r = s k.val)
    (hx : ∀ k, s k * Real.log 2 = x k) (h1 : ∀ k, val V 128 k = 1) :
    out (F := Ideal) Q K V (ix2 r d)
      = ∑ k : Fin 8192, val V ⟨d.val, by omega⟩ k.val
          * Ideal.div (Ideal.exp ((x k.val : EReal) - b)) (∑ j : Fin 8192, Ideal.exp ((x j.val : EReal) - b)) := by
  obtain ⟨a, ha⟩ := mx_real Q K r s hs 15 (by norm_num)
  rw [out, pay1_at, acc_at Q K V r _ s hs, acc_at Q K V r _ s hs, ha]
  simp only [h1]
  exact Online.quotient (by norm_num) (fun k => x k.val) (fun k => s k.val) _ a b fun k => hx k.val

end Cert.Kernel2Ideal.Flash

end
-- ==== Proof.Blocks2.lean ====
/- Each grid point's blocks, read off the launch's operands: point `t` serves query head `t / 8`, key head `t / 16` and the queries from `1024 (t % 8)`. -/
module

public import proofs.«01_k».proof.Proof.Operands2
public import proofs.«01_k».proof.Proof.Column2

@[expose] public section

set_option maxRecDepth 16384

noncomputable section

namespace Cert.Kernel2Ideal.Flash

open Idealize.ShloMosaic Idealize.ShloMosaic.TcCoe Idealize.SL.Sem Cert.Kernel2Ideal.Gen

variable (m : (ℓ : Loc nD τ sig) → Buf (Elt Ideal) ℓ) (c : Dev nD)

theorem idx : ∀ t : Fin cfg0.N, win0_0.index t = ![t.val / 8, t.val % 8, 0] ∧ win0_1.index t = ![t.val / 16, 0, 0]
    ∧ win0_2.index t = ![t.val / 16, 0, 0, 0] ∧ win0_3.index t = ![t.val % 8, t.val / 8] ∧ t.val < 32 :=
  (by decide +kernel : ∀ t : Fin grid0.N, _)

theorem blkQ (t : Fin cfg0.N) (h : Fin 4) (hh : h.val = t.val / 8) (r : Fin 1024) (x : Fin 128) :
    (iblk m c 0 t : FVec Ideal S1x1024x128 .bf16) (ix3 0 r x) = opQ m c (ix3 h ⟨t.val % 8 * 1024 + r.val, by omega⟩ x) := by
  blk_ext [iblk, opQ, idx t]

theorem blkK (t : Fin cfg0.N) (h : Fin 2) (hh : h.val = t.val / 16) (k : Fin 8192) (x : Fin 128) :
    (iblk m c 1 t : FVec Ideal S1x8192x128 .bf16) (ix3 0 k x) = opK m c (ix3 h k x) := by
  blk_ext [iblk, opK, idx t]

theorem blkV (t : Fin cfg0.N) (h : Fin 2) (hh : h.val = t.val / 16) (n : Fin 32) (d : Fin 144) (x : Fin 256) :
    (iblk m c 2 t : FVec Ideal S1x32x144x256 .bf16) (ix4 0 n d x) = opV m c (ix4 h n d x) := by
  blk_ext [iblk, opV, idx t]

end Cert.Kernel2Ideal.Flash

end
-- ==== Proof.Reference2.lean ====
/- The grouped heads' reference read at an index: softmax attention, for real scores. -/
module

public import proofs.«01_k».proof.Proof.Gen.Reference2Ideal.Run
public import proofs.«01_k».proof.Proof.Online
public import Idealize.ShloMosaic.Lib.Pointwise
public import Idealize.ShloMosaic.Lib.IdealHost

@[expose] public section

set_option maxRecDepth 16384

noncomputable section

namespace Cert.Reference2Ideal.Read

open Idealize.ShloMosaic Idealize.ShloMosaic.TcCoe Cert.Reference2Ideal Cert.Reference2Ideal.Gen Cert.Reference2Ideal.Facts

/-- The scaled scores: key head, query head in its group, query, key. -/
def sc (q : FVec Ideal S8192x4x128 .f32) (k : FVec Ideal S8192x2x128 .f32) : FVec Ideal S2x2x8192x8192 .f32 :=
  mulf (transpose S2x2x8192x8192 [0, 3, 2, 1] (Host.dotGeneral dot_S8192x2x128_S8192x2x2x128_S2x8192x8192x2_2_3_0_02_1_1 none k
      (shapeCast S8192x2x2x128 q shapeCasts_S8192x4x128_S8192x2x2x128)) transposes_S2x8192x8192x2_S2x2x8192x8192_0_3_2_1)
    (broadcastInDim S2x2x8192x8192 ![] bcast_S_S2x2x8192x8192 (constant S_ .f32 0x3DB504F3#32))

/-- Each query's largest score. -/
def top (s : FVec Ideal S2x2x8192x8192 .f32) : FVec Ideal S2x2x8192 .f32 :=
  maximumf (broadcastInDim S2x2x8192 ![] bcast_S_S2x2x8192 (constant S_ .f32 0xFF800000#32))
    (Host.reduce FloatOps.maximumf s (constant S_ .f32 0xFF800000#32) reducesTo_S2x2x8192x8192_S2x2x8192_d3 h_S_)

/-- The exponentials of the scores less the largest. -/
def ex (s : FVec Ideal S2x2x8192x8192 .f32) (t : FVec Ideal S2x2x8192 .f32) : FVec Ideal S2x2x8192x8192 .f32 :=
  Host.exp (subf s (broadcastInDim S2x2x8192x8192 ![0, 1, 2, 3] bcast_S2x2x8192x1_S2x2x8192x8192_0_1_2_3
    (broadcastInDim S2x2x8192x1 ![0, 1, 2] bcast_S2x2x8192_S2x2x8192x1_0_1_2 t)))

/-- The exponentials over their sum, weighing the values. -/
def mix (e : FVec Ideal S2x2x8192x8192 .f32) (v : FVec Ideal S8192x2x128 .f32) : FVec Ideal S8192x512 .f32 :=
  shapeCast _ (transpose S8192x2x2x128 [3, 0, 2, 1] (Host.dotGeneral dot_S8192x2x128_S2x2x8192x8192_S2x128x2x8192_0_3_2_12_1_0 none v
    (Host.divf e (broadcastInDim S2x2x8192x8192 ![0, 1, 2, 3] bcast_S2x2x8192x1_S2x2x8192x8192_0_1_2_3
      (broadcastInDim S2x2x8192x1 ![0, 1, 2] bcast_S2x2x8192_S2x2x8192x1_0_1_2
        (Host.reduceAdd e (constant S_ .f32 0x00000000#32) reducesTo_S2x2x8192x8192_S2x2x8192_d3 h_S_)))))
    transposes_S2x128x2x8192_S8192x2x2x128_3_0_2_1) shapeCasts_S8192x2x2x128_S8192x512

/-- The reference's result. -/
def ref (q : FVec Ideal S8192x4x128 .f32) (k v : FVec Ideal S8192x2x128 .f32) : FVec Ideal S8192x512 .f32 :=
  mix (ex (sc q k) (top (sc q k))) v

theorem sc_at (q : FVec Ideal S8192x4x128 .f32) (k : FVec Ideal S8192x2x128 .f32) (p g : Fin 2) (i j : Fin 8192) :
    sc q k (ix4 p g i j)
      = (∑ y : Fin 128, k (ix3 j p y) * q (ix3 i ⟨p.val * 2 + g.val, by omega⟩ y)) * Ideal.ofBits .f32 0x3DB504F3#32 := by
  pointwise [sc]
  done

/-- A maximum over the last axis of real entries, from minus infinity, is a real. -/
theorem reduce_max_real {n0 n1 n2 n3 : ℕ} {u : Shape} (h : (⟨4, ![n0, n1, n2, n3]⟩ : Shape).ReducesTo [3] ⟨3, ![n0, n1, n2]⟩) (hu : 0 < u.numel)
    (s : (⟨4, ![n0, n1, n2, n3]⟩ : Shape).Idx → EReal) (init : u.Idx → EReal) (hi : init (Shape.Idx.first hu) = ⊥)
    (p : Fin n0) (g : Fin n1) (i : Fin n2) (hn : 0 < n3) (hs : ∀ j : Fin n3, ∃ a : ℝ, s (ix4 p g i j) = a) :
    ∃ a : ℝ, Host.reduce (FloatOps.maximumf (F := Ideal) (φ := .f32)) s init h hu (ix3 p g i) = a := by
  have hm : (FloatOps.maximumf (F := Ideal) (φ := .f32)) = (max : EReal → EReal → EReal) := rfl
  choose f hf using hs
  obtain ⟨a, ha⟩ := Online.fold_max_real (Finset.univ : Finset (Fin n3)) ⟨⟨0, hn⟩, Finset.mem_univ _⟩ f
  refine ⟨a, ?_⟩
  rw [hm, Host.reduce_eq_fold, h.fold_fiber_r4_a3, hi, ← ha]
  exact congrArg (fun z => Finset.univ.fold max ⊥ z) (funext fun k => hf k)

theorem ofBits_bot : Ideal.ofBits FTy.f32 0xFF800000#32 = (⊥ : EReal) := by
  simp [Ideal.ofBits, Ideal.ieee]

theorem maximumf_at {S : Shape} (x y : FVec Ideal S .f32) (i : S.Idx) : maximumf x y i = max (x i : EReal) (y i) := rfl

theorem top_real (s : FVec Ideal S2x2x8192x8192 .f32) (p g : Fin 2) (i : Fin 8192) (hs : ∀ j : Fin 8192, ∃ a : ℝ, s (ix4 p g i j) = a) :
    ∃ a : ℝ, top s (ix3 p g i) = a := by
  obtain ⟨a, ha⟩ := reduce_max_real reducesTo_S2x2x8192x8192_S2x2x8192_d3 h_S_ s (constant (F := Ideal) S_ .f32 0xFF800000#32) ofBits_bot p g i
    (by norm_num) hs
  refine ⟨a, ?_⟩
  refine (maximumf_at _ _ _).trans ?_
  rw [ha]
  exact (congrArg (max · (a : EReal)) ofBits_bot).trans (max_eq_right bot_le)

theorem ex_at (s : FVec Ideal S2x2x8192x8192 .f32) (t : FVec Ideal S2x2x8192 .f32) (p g : Fin 2) (i j : Fin 8192) :
    ex s t (ix4 p g i j) = Ideal.exp (s (ix4 p g i j) - t (ix3 p g i)) := by
  pointwise [ex]
  done

theorem mix_at (e : FVec Ideal S2x2x8192x8192 .f32) (v : FVec Ideal S8192x2x128 .f32) (i : Fin 8192) (p g : Fin 2) (d : Fin 128) :
    mix e v (ix2 i ⟨(p.val * 2 + g.val) * 128 + d.val, by omega⟩)
      = ∑ j : Fin 8192, v (ix3 j p d) * Ideal.div (e (ix4 p g i j)) (∑ l : Fin 8192, e (ix4 p g i l)) := by
  pointwise [mix]
  done

end Cert.Reference2Ideal.Read

end
-- ==== Proof.Value2.lean ====
/- The grouped heads' result is the reference's, for real queries and keys. -/
module

public import proofs.«01_k».proof.Proof.Blocks2
public import proofs.«01_k».proof.Proof.Reference2

@[expose] public section

set_option maxRecDepth 16384

noncomputable section

namespace Cert.Kernel2Ideal.Flash

open Idealize.ShloMosaic Idealize.ShloMosaic.TcCoe Idealize.SL.Sem Cert.Kernel2Ideal.Gen

/-- The reference's scale is a real. -/
theorem scale_real : ∃ σ : ℝ, Ideal.ofBits .f32 0x3DB504F3#32 = ((σ : ℝ) : EReal) :=
  ⟨_, by simp [Ideal.ofBits, Ideal.ieee, -EReal.coe_mul]; rfl⟩

theorem ofBits_two : Ideal.ofBits .f32 0x40000000#32 = ((2 : ℝ) : EReal) := by
  simp [Ideal.ofBits, Ideal.ieee, -EReal.coe_mul]; norm_num

/-- The kernel's scale is the reference's over `log 2`. -/
theorem scale_eq (σ : ℝ) (h : Ideal.ofBits .f32 0x3DB504F3#32 = ((σ : ℝ) : EReal)) : scale = ((σ / Real.log 2 : ℝ) : EReal) := by
  rw [scale, h, ofBits_two, Ideal.log_coe, if_neg (by norm_num), Ideal.div_coe (Real.log_pos (by norm_num)).ne', ← EReal.coe_mul,
    mul_one_div]

/-- The real score of query `i` in head `h` against key `j` in key head `p`, before the scale. -/
def dot (q : (⟨3, ![8192, 4, 128]⟩ : Shape).Idx → ℝ) (k : (⟨3, ![8192, 2, 128]⟩ : Shape).Idx → ℝ) (h : Fin 4) (p : Fin 2) (i j : Fin 8192) : ℝ :=
  ∑ y : Fin 128, q (ix3 i h y) * k (ix3 j p y)

/-- The reference at an index. -/
theorem ref_at (q : FVec Ideal S8192x4x128 .f32) (k v : FVec Ideal S8192x2x128 .f32) (q' : (⟨3, ![8192, 4, 128]⟩ : Shape).Idx → ℝ)
    (k' : (⟨3, ![8192, 2, 128]⟩ : Shape).Idx → ℝ)
    (hq : ∀ j, q j = q' j) (hk : ∀ j, k j = k' j) (σ : ℝ) (hσ : Ideal.ofBits .f32 0x3DB504F3#32 = ((σ : ℝ) : EReal))
    (i : Fin 8192) (h : Fin 4) (p : Fin 2) (hp : p.val = h.val / 2) (d : Fin 128) :
    ∃ b : ℝ, Cert.Reference2Ideal.Read.ref q k v (ix2 i ⟨h.val * 128 + d.val, by omega⟩)
      = ∑ j : Fin 8192, v (ix3 j p d) * Ideal.div (Ideal.exp (((dot q' k' h p i j * σ : ℝ) : EReal) - b))
          (∑ l : Fin 8192, Ideal.exp (((dot q' k' h p i l * σ : ℝ) : EReal) - b)) := by
  let g : Fin 2 := ⟨h.val % 2, by omega⟩
  have hg : (⟨p.val * 2 + g.val, by omega⟩ : Fin 4) = h := Fin.ext (by show p.val * 2 + h.val % 2 = h.val; omega)
  have hs : ∀ j : Fin 8192, Cert.Reference2Ideal.Read.sc q k (ix4 p g i j) = ((dot q' k' h p i j * σ : ℝ) : EReal) := fun j => by
    rw [Cert.Reference2Ideal.Read.sc_at, hσ, dot, EReal.coe_mul, Online.coe_sum, hg]
    refine congrArg (· * (σ : EReal)) (Finset.sum_congr rfl fun y _ => ?_)
    rw [hq, hk, EReal.coe_mul, mul_comm]
  obtain ⟨b, hb⟩ := Cert.Reference2Ideal.Read.top_real (Cert.Reference2Ideal.Read.sc q k) p g i fun j => ⟨_, hs j⟩
  refine ⟨b, ?_⟩
  have hx : (⟨h.val * 128 + d.val, by omega⟩ : Fin 512) = ⟨(p.val * 2 + g.val) * 128 + d.val, by omega⟩ :=
    Fin.ext (by show h.val * 128 + d.val = (p.val * 2 + h.val % 2) * 128 + d.val; omega)
  rw [hx, Cert.Reference2Ideal.Read.ref, Cert.Reference2Ideal.Read.mix_at]
  simp only [Cert.Reference2Ideal.Read.ex_at, hs, hb]

/-- A column's score, from the two rows it multiplies: 128 lanes of reals, the queries' scaled. -/
theorem score_of (Q : FVec Ideal S1x1024x128 .bf16) (K : FVec Ideal S1x8192x128 .bf16) (r : Fin 1024) (j : Fin 8192) (a b : Fin 128 → ℝ) (ρ : ℝ)
    (hQ : ∀ x : Fin 128, Q (ix3 0 r x) = (a x : EReal) * ρ) (hK : ∀ x : Fin 128, K (ix3 0 j x) = (b x : EReal)) :
    score Q K j r = (((∑ y, a y * b y) * ρ : ℝ) : EReal) := by
  have e : ∀ x : Fin 128, K (ix3 0 j x) * Q (ix3 0 r x) = ((a x * b x * ρ : ℝ) : EReal) := by
    intro x
    rw [hK, hQ, ← EReal.coe_mul, ← EReal.coe_mul]
    congr 1; ring
  rw [score, Finset.sum_congr rfl fun x _ => e x, ← Online.coe_sum, ← Finset.sum_mul]

variable (m : (ℓ : Loc nD τ sig) → Buf (Elt Ideal) ℓ) (c : Dev nD)

/-- A point's score, over the arguments. -/
theorem score_at (q' : (⟨3, ![8192, 4, 128]⟩ : Shape).Idx → ℝ) (k' : (⟨3, ![8192, 2, 128]⟩ : Shape).Idx → ℝ) (hq : ∀ j, argQ m c j = q' j) (hk : ∀ j, argK m c j = k' j)
    (σ : ℝ) (hσ : Ideal.ofBits .f32 0x3DB504F3#32 = ((σ : ℝ) : EReal))
    (t : Fin cfg0.N) (h : Fin 4) (hh : h.val = t.val / 8) (p : Fin 2) (hp : p.val = t.val / 16) (r : Fin 1024) (j : Fin 8192) :
    score (iblk m c 0 t) (iblk m c 1 t) j r
      = ((dot q' k' h p ⟨t.val % 8 * 1024 + r.val, by omega⟩ j * (σ / Real.log 2) : ℝ) : EReal) := by
  refine score_of _ _ r j _ _ _ (fun x => ?_) (fun x => ?_)
  · rw [blkQ m c t h hh, q_at, scale_eq σ hσ]
    simp only [hq]
  · rw [blkK m c t p hp, k_at]
    simp only [hk]

/-- What a point leaves, at a query and a value coordinate. -/
theorem point_at (q' : (⟨3, ![8192, 4, 128]⟩ : Shape).Idx → ℝ) (k' : (⟨3, ![8192, 2, 128]⟩ : Shape).Idx → ℝ) (hq : ∀ j, argQ m c j = q' j) (hk : ∀ j, argK m c j = k' j)
    (t : Fin cfg0.N) (h : Fin 4) (hh : h.val = t.val / 8) (p : Fin 2) (hp : p.val = t.val / 16) (r : Fin 1024) (d : Fin 128) :
    out (F := Ideal) (iblk m c 0 t) (iblk m c 1 t) (iblk m c 2 t) (ix2 r d)
      = Cert.Reference2Ideal.Read.ref (argQ m c) (argK m c) (argV m c)
          (ix2 ⟨t.val % 8 * 1024 + r.val, by omega⟩ ⟨h.val * 128 + d.val, by omega⟩) := by
  obtain ⟨σ, hσ⟩ := scale_real
  obtain ⟨b, hb⟩ := ref_at (argQ m c) (argK m c) (argV m c) q' k' hq hk σ hσ ⟨t.val % 8 * 1024 + r.val, by omega⟩ h p (by omega) d
  rw [hb]
  have hL : Real.log 2 ≠ 0 := (Real.log_pos (by norm_num)).ne'
  let n : ℕ → Fin 8192 := fun k => ⟨k % 8192, Nat.mod_lt _ (by norm_num)⟩
  have hn : ∀ k : Fin 8192, n k.val = k := fun k => Fin.ext (Nat.mod_eq_of_lt k.isLt)
  refine (out_at (iblk m c 0 t) (iblk m c 1 t) (iblk m c 2 t) r d
    (fun k => dot q' k' h p ⟨t.val % 8 * 1024 + r.val, by omega⟩ (n k) * (σ / Real.log 2))
    (fun k => dot q' k' h p ⟨t.val % 8 * 1024 + r.val, by omega⟩ (n k) * σ) b
    (fun k => by rw [hn, score_at m c q' k' hq hk σ hσ t h hh p hp r k]) (fun k => by field_simp)
    (fun k => by rw [val, blkV m c t p hp, ones_at])).trans ?_
  simp only [hn]
  refine Finset.sum_congr rfl fun k _ => ?_
  congr 1
  rw [val, blkV m c t p hp, v_at m c p _ _ _ d.isLt]
  congr 2
  exact Fin.ext (by show 256 * (k.val / 256 % 32) + k.val % 256 = k.val; omega)

/-- The result array after the launch. -/
theorem final (hq : ∀ j, ∃ a : ℝ, argQ m c j = a) (hk : ∀ j, ∃ a : ℝ, argK m c j = a) :
    (dats m 0 c).arrAt 3 cfg0.N = Cert.Reference2Ideal.Read.ref (argQ m c) (argK m c) (argV m c) := by
  choose q' hq' using hq
  choose k' hk' using hk
  refine (dats m 0 c).arrAt_eq_of_covers 3 _ (by decide +kernel) fun t _ y => ?_
  blk_simp
  rw [after0_3]
  have ht := (idx t).2.2.2.2
  have hy : y = ix2 (y 0) (y 1) := by idx_ext
  rw [hy]
  refine (point_at m c q' k' hq' hk' t ⟨t.val / 8, by omega⟩ rfl ⟨t.val / 16, by omega⟩ rfl (y 0) (y 1)).trans ?_
  blk_ext [idx t]

end Cert.Kernel2Ideal.Flash

end
-- ==== Proof.Finite2.lean ====
/- The precondition read back: every query and key entry is a real. -/
module

public import proofs.«01_k».proof.Pre_finite2
public import proofs.«01_k».proof.Proof.Gen.Pre_finite2
public import Idealize.ShloMosaic.Lib.ReduceAll
public import Idealize.ShloMosaic.Lib.IdealHost
public import Idealize.ShloMosaic.Lib.Affine

@[expose] public section

set_option maxRecDepth 16384

noncomputable section

namespace Cert.Pre_finite2.Read

open Idealize.ShloMosaic Cert.Pre_finite2 Cert.Pre_finite2.Facts

theorem ofBits_top : Ideal.ofBits FTy.f32 0x7F800000#32 = (⊤ : EReal) := by
  simp [Ideal.ofBits, Ideal.ieee]

instance : Subsingleton S_.Idx := ⟨fun a b => funext fun i => i.elim0⟩

theorem real_of_lt (x : EReal) (h : FloatOps.cmpf (F := Ideal) (φ := .f32) .olt (FloatOps.hostAbsf (F := Ideal) (φ := .f32) x) (Ideal.ofBits FTy.f32 0x7F800000#32) = 1#1) : ∃ a : ℝ, x = a := by
  rw [ofBits_top] at h
  induction x with
  | bot => simp [Ideal.cmpf_def, Ideal.absf_def, Ideal.cmp] at h
  | coe a => exact ⟨a, rfl⟩
  | top => simp [Ideal.cmpf_def, Ideal.absf_def, Ideal.cmp] at h

variable [Facts]

theorem reals (q : FVec Ideal S8192x4x128 .f32) (k : FVec Ideal S8192x2x128 .f32) (v : FVec Ideal S8192x2x128 .f32) (i : S_.Idx) (h : fn (F := Ideal) q k v i = 1#1) :
    (∀ j, ∃ a : ℝ, q j = a) ∧ ∀ j, ∃ a : ℝ, k j = a := by
  unfold fn at h
  obtain ⟨h1, h2⟩ := IntOp.andi_eq_one.1 h
  exact ⟨fun j => real_of_lt _ (Host.reduce_andi_all _ _ _ _ i h1 j), fun j => real_of_lt _ (Host.reduce_andi_all _ _ _ _ i h2 j)⟩

end Cert.Pre_finite2.Read

end
-- ==== Proof.Equal2.lean ====
/- From equal arguments of the grouped heads with real queries and keys, kernel and reference end with the same result. -/
module

public import proofs.«01_k».proof.Proof.Frames2
public import proofs.«01_k».proof.Proof.Value2
public import proofs.«01_k».proof.Proof.Finite2

@[expose] public section

noncomputable section

namespace Cert.Proof

open Idealize.ShloMosaic Idealize.ShloMosaic.TcCoe Idealize.SL.Sem

theorem equal2 : algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  refine ⟨fun c => Cert.Reference2Ideal.Read.ref (Cert.Kernel2Ideal.Flash.argQ m c) (Cert.Kernel2Ideal.Flash.argK m c) (Cert.Kernel2Ideal.Flash.argV m c), ?_, ?_⟩
  · refine (θ_run _ _ _).mono (fun _ h c => ⟨(h.1 c).1.trans ?_, (h.1 c).2⟩) (Cert.Kernel2Ideal.Flash.run_post m g)
    obtain ⟨hq, hk⟩ := Cert.Pre_finite2.Read.reals _ _ _ (fun i => i.elim0) (congrFun (hpre c) _)
    exact Cert.Kernel2Ideal.Flash.final m c hq hk
  · refine (θ_run _ _ _).mono (fun _ h c => ⟨(h c).1.trans ?_, (h c).2⟩) (Cert.Reference2Ideal.Value.run (F := Ideal) m' g')
    rw [(hagree c).1, (hagree c).2.1, (hagree c).2.2]
    rfl

end Cert.Proof

end
-- ==== Proof.Frames3.lean ====
/- Each program runs, leaves its arguments as they were and every semaphore at zero. -/
module

public import proofs.«01_k».proof.Defs
public import proofs.«01_k».proof.Proof.Gen.Kernel3
public import proofs.«01_k».proof.Proof.Gen.Kernel3Ideal.Frame
public import proofs.«01_k».proof.Proof.Gen.Reference3Ideal.Run
public import Idealize.ShloMosaic.Adequacy
public import Idealize.ShloMosaic.Lib.Pipeline.Regions
public import Idealize.ShloMosaic.Init

@[expose] public section

noncomputable section

namespace Cert.Proof

open Idealize.ShloMosaic Idealize.SL.Sem

theorem frame_kernel3Ideal : Cert.quiescent_Kernel3Ideal := fun m ρ _ => Cert.Kernel3Ideal.Gen.frame (F := Ideal) m ρ

/-- The two kernel programs have the same text: their tables of bodies are one. -/
theorem bodies_eq3 : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg Defs.onTc ?_
  chain_rfl

theorem defs_eq3 : @Cert.Kernel3.defs Bits _ Cert.Kernel3.Gen.facts = @Cert.Kernel3Ideal.defs Bits _ Cert.Kernel3Ideal.Gen.facts :=
  congrArg (Pipeline.defs (Cert.Kernel3Ideal.pcfgs (F := Bits))) bodies_eq3

/-- So the one run serves both. -/
theorem frame_kernel3 : Cert.quiescent_Kernel3 := fun m ρ _ => by
  have h := Cert.Kernel3Ideal.Gen.frame (F := Bits) m ρ
  rw [← defs_eq3] at h
  refine Eq.mp ?_ h
  chain_rfl

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

end Cert.Proof

end
-- ==== Proof.Reference3.lean ====
/- The output projection's reference read at an index. -/
module

public import proofs.«01_k».proof.Proof.Gen.Reference3Ideal.Run
public import Idealize.ShloMosaic.Lib.Pointwise
public import Idealize.ShloMosaic.Lib.IdealHost

@[expose] public section

set_option maxRecDepth 16384

noncomputable section

namespace Cert.Reference3Ideal.Read

open Idealize.ShloMosaic Idealize.ShloMosaic.TcCoe Cert.Reference3Ideal Cert.Reference3Ideal.Gen Cert.Reference3Ideal.Facts

/-- One entry of a group's root-mean-square norm: `n` is the group's width, `g` the gain. -/
def unit {N : ℕ} (n : EReal) (o : Fin N → EReal) (g : Fin N → EReal) (j : Fin N) : EReal :=
  o j * Ideal.rsqrt (Ideal.div (∑ i : Fin N, o i * o i) n + Ideal.ofBits .f32 0x358637BD#32) * g j

/-- The widths 768 and 512. -/
def w768 : EReal := Ideal.ofBits .f32 0x44400000#32
def w512 : EReal := Ideal.ofBits .f32 0x44000000#32

def nrm768 (o : FVec Ideal S8192x768 .f32) (g : FVec Ideal S768 .f32) : FVec Ideal S8192x768 .f32 :=
  mulf (mulf o (broadcastInDim S8192x768 ![0, 1] bcast_S8192x1_S8192x768_0_1 (Host.rsqrt (addf (Host.divf
    (broadcastInDim S8192x1 ![0] bcast_S8192_S8192x1_0 (Host.reduceAdd (mulf o o) (constant S_ .f32 0x00000000#32) reducesTo_S8192x768_S8192_d1 h_S_))
    (broadcastInDim S8192x1 ![] bcast_S_S8192x1 (constant S_ .f32 0x44400000#32)))
    (broadcastInDim S8192x1 ![] bcast_S_S8192x1 (constant S_ .f32 0x358637BD#32))))))
    (broadcastInDim S8192x768 ![0, 1] bcast_S1x768_S8192x768_0_1 (broadcastInDim S1x768 ![1] bcast_S768_S1x768_1 g))

def nrm512 (o : FVec Ideal S8192x512 .f32) (g : FVec Ideal S512 .f32) : FVec Ideal S8192x512 .f32 :=
  mulf (mulf o (broadcastInDim S8192x512 ![0, 1] bcast_S8192x1_S8192x512_0_1 (Host.rsqrt (addf (Host.divf
    (broadcastInDim S8192x1 ![0] bcast_S8192_S8192x1_0 (Host.reduceAdd (mulf o o) (constant S_ .f32 0x00000000#32) reducesTo_S8192x512_S8192_d1 h_S_))
    (broadcastInDim S8192x1 ![] bcast_S_S8192x1 (constant S_ .f32 0x44000000#32)))
    (broadcastInDim S8192x1 ![] bcast_S_S8192x1 (constant S_ .f32 0x358637BD#32))))))
    (broadcastInDim S8192x512 ![0, 1] bcast_S1x512_S8192x512_0_1 (broadcastInDim S1x512 ![1] bcast_S512_S1x512_1 g))

/-- The three groups side by side. -/
def cat (a : FVec Ideal S8192x768 .f32) (b : FVec Ideal S8192x512 .f32) (d : FVec Ideal S8192x768 .f32) : FVec Ideal S8192x2048 .f32 :=
  concatenate S8192x2048 1 [⟨S8192x768, a⟩, ⟨S8192x512, b⟩, ⟨S8192x768, d⟩] concatenates_S8192x768_S8192x512_S8192x768_S8192x2048_d1

/-- The projection's result: the residual, and the gated product. -/
def proj (o : FVec Ideal S8192x2048 .f32) (w : FVec Ideal S2048x2048 .f32) (x : FVec Ideal S8192x2048 .f32) (md : FVec Ideal S1x12288 .f32) : FVec Ideal S8192x2048 .f32 :=
  addf x (mulf (broadcastInDim S8192x2048 ![0, 1] bcast_S1x2048_S8192x2048_0_1 (extractStridedSlice S1x2048 ![0, 4096] md slices_S1x12288_S1x2048_0_4096))
    (Host.dotGeneral dot_S8192x2048_S2048x2048_S8192x2048_1_0_0_1_n_n none o w))

/-- The reference's result. -/
def ref (a : FVec Ideal S8192x768 .f32) (b : FVec Ideal S8192x512 .f32) (d : FVec Ideal S8192x768 .f32) (g : FVec Ideal S2048 .f32)
    (w : FVec Ideal S2048x2048 .f32) (x : FVec Ideal S8192x2048 .f32) (md : FVec Ideal S1x12288 .f32) : FVec Ideal S8192x2048 .f32 :=
  proj (cat (nrm768 (extractStridedSlice S8192x768 ![0, 0] (cat a b d) slices_S8192x2048_S8192x768_0_0) (extractStridedSlice S768 ![0] g slices_S2048_S768_0))
    (nrm512 (extractStridedSlice S8192x512 ![0, 768] (cat a b d) slices_S8192x2048_S8192x512_0_768) (extractStridedSlice S512 ![768] g slices_S2048_S512_768))
    (nrm768 (extractStridedSlice S8192x768 ![0, 1280] (cat a b d) slices_S8192x2048_S8192x768_0_1280) (extractStridedSlice S768 ![1280] g slices_S2048_S768_1280))) w x md

theorem res_eq (m : (ℓ : Loc nD τ sig) → Buf (Elt Ideal) ℓ) (c : Dev nD) :
    Cert.Reference3Ideal.Value.res_main_v56 (F := Ideal) m c
      = ref (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := rfl

theorem nrm768_at (o : FVec Ideal S8192x768 .f32) (g : FVec Ideal S768 .f32) (r : Fin 8192) (j : Fin 768) :
    nrm768 o g (ix2 r j) = unit w768 (fun i => o (ix2 r i)) (fun i => g (ix1 i)) j := by
  pointwise [nrm768, unit, w768]
  done

theorem nrm512_at (o : FVec Ideal S8192x512 .f32) (g : FVec Ideal S512 .f32) (r : Fin 8192) (j : Fin 512) :
    nrm512 o g (ix2 r j) = unit w512 (fun i => o (ix2 r i)) (fun i => g (ix1 i)) j := by
  pointwise [nrm512, unit, w512]
  done

theorem proj_at (o : FVec Ideal S8192x2048 .f32) (w : FVec Ideal S2048x2048 .f32) (x : FVec Ideal S8192x2048 .f32) (md : FVec Ideal S1x12288 .f32)
    (r : Fin 8192) (q : Fin 2048) :
    proj o w x md (ix2 r q) = x (ix2 r q) + md (ix2 0 ⟨4096 + q.val, by omega⟩) * ∑ k : Fin 2048, o (ix2 r k) * w (ix2 k q) := by
  pointwise [proj]
  done

theorem cat_a (a : FVec Ideal S8192x768 .f32) (b : FVec Ideal S8192x512 .f32) (d : FVec Ideal S8192x768 .f32) (r : Fin 8192) (j : Fin 768) :
    cat a b d (ix2 r ⟨j.val, by omega⟩) = a (ix2 r j) := by
  pointwise [cat]
  done

theorem cat_b (a : FVec Ideal S8192x768 .f32) (b : FVec Ideal S8192x512 .f32) (d : FVec Ideal S8192x768 .f32) (r : Fin 8192) (j : Fin 512) :
    cat a b d (ix2 r ⟨768 + j.val, by omega⟩) = b (ix2 r j) := by
  pointwise [cat]
  done

theorem cat_d (a : FVec Ideal S8192x768 .f32) (b : FVec Ideal S8192x512 .f32) (d : FVec Ideal S8192x768 .f32) (r : Fin 8192) (j : Fin 768) :
    cat a b d (ix2 r ⟨1280 + j.val, by omega⟩) = d (ix2 r j) := by
  pointwise [cat]
  rw [dif_neg (by omega), dif_neg (by omega)]
  exact congrArg (fun k => d (ix2 r k)) (Fin.ext (by show 1280 + j.val - 768 - 512 = j.val; omega))

/-- A sum over the 2048 columns, group by group. -/
theorem sum_groups (f : Fin 2048 → EReal) :
    ∑ k : Fin 2048, f k = ∑ j : Fin 768, f ⟨j.val, by omega⟩ + ∑ j : Fin 512, f ⟨768 + j.val, by omega⟩ + ∑ j : Fin 768, f ⟨1280 + j.val, by omega⟩ := by
  refine (Fin.sum_univ_add (a := 1280) (b := 768) f).trans ?_
  rw [Fin.sum_univ_add (a := 768) (b := 512) (fun k : Fin 1280 => f (Fin.castAdd 768 k))]
  rfl

/-- One entry of the projection, from the rows of the three groups. -/
def entry (a : Fin 768 → EReal) (b : Fin 512 → EReal) (d : Fin 768 → EReal) (g w : Fin 2048 → EReal) (x s : EReal) : EReal :=
  x + s * (∑ j : Fin 768, unit w768 a (fun i => g ⟨i.val, by omega⟩) j * w ⟨j.val, by omega⟩
    + ∑ j : Fin 512, unit w512 b (fun i => g ⟨768 + i.val, by omega⟩) j * w ⟨768 + j.val, by omega⟩
    + ∑ j : Fin 768, unit w768 d (fun i => g ⟨1280 + i.val, by omega⟩) j * w ⟨1280 + j.val, by omega⟩)

theorem slice_a (a : FVec Ideal S8192x768 .f32) (b : FVec Ideal S8192x512 .f32) (d : FVec Ideal S8192x768 .f32) (r : Fin 8192) (j : Fin 768) :
    extractStridedSlice S8192x768 ![0, 0] (cat a b d) slices_S8192x2048_S8192x768_0_0 (ix2 r j) = a (ix2 r j) := by
  pointwise [cat]
  done

theorem slice_b (a : FVec Ideal S8192x768 .f32) (b : FVec Ideal S8192x512 .f32) (d : FVec Ideal S8192x768 .f32) (r : Fin 8192) (j : Fin 512) :
    extractStridedSlice S8192x512 ![0, 768] (cat a b d) slices_S8192x2048_S8192x512_0_768 (ix2 r j) = b (ix2 r j) := by
  pointwise [cat]
  done

theorem slice_d (a : FVec Ideal S8192x768 .f32) (b : FVec Ideal S8192x512 .f32) (d : FVec Ideal S8192x768 .f32) (r : Fin 8192) (j : Fin 768) :
    extractStridedSlice S8192x768 ![0, 1280] (cat a b d) slices_S8192x2048_S8192x768_0_1280 (ix2 r j) = d (ix2 r j) := by
  refine Eq.trans ?_ (cat_d a b d r j)
  pointwise
  done

theorem gain_a (g : FVec Ideal S2048 .f32) (j : Fin 768) :
    extractStridedSlice S768 ![0] g slices_S2048_S768_0 (ix1 j) = g (ix1 ⟨j.val, by omega⟩) := by
  pointwise
  done

theorem gain_b (g : FVec Ideal S2048 .f32) (j : Fin 512) :
    extractStridedSlice S512 ![768] g slices_S2048_S512_768 (ix1 j) = g (ix1 ⟨768 + j.val, by omega⟩) := by
  pointwise
  done

theorem gain_d (g : FVec Ideal S2048 .f32) (j : Fin 768) :
    extractStridedSlice S768 ![1280] g slices_S2048_S768_1280 (ix1 j) = g (ix1 ⟨1280 + j.val, by omega⟩) := by
  pointwise
  done

theorem ref_at (a : FVec Ideal S8192x768 .f32) (b : FVec Ideal S8192x512 .f32) (d : FVec Ideal S8192x768 .f32) (g : FVec Ideal S2048 .f32)
    (w : FVec Ideal S2048x2048 .f32) (x : FVec Ideal S8192x2048 .f32) (md : FVec Ideal S1x12288 .f32) (r : Fin 8192) (q : Fin 2048) :
    ref a b d g w x md (ix2 r q)
      = entry (fun j => a (ix2 r j)) (fun j => b (ix2 r j)) (fun j => d (ix2 r j)) (fun j => g (ix1 j)) (fun k => w (ix2 k q))
          (x (ix2 r q)) (md (ix2 0 ⟨4096 + q.val, by omega⟩)) := by
  unfold ref entry
  rw [proj_at, sum_groups]
  simp only [cat_a, cat_b, cat_d, nrm768_at, nrm512_at, slice_a, slice_b, slice_d, gain_a, gain_b, gain_d]

end Cert.Reference3Ideal.Read

end
-- ==== Proof.Payloads3.lean ====
/- The output projection's block, read at an index. -/
module

public import proofs.«01_k».proof.Proof.Gen.Kernel3Ideal.Skeleton
public import proofs.«01_k».proof.Proof.Reference3

@[expose] public section

set_option maxRecDepth 16384

noncomputable section

namespace Cert.Kernel3Ideal.Proj

open Idealize.ShloMosaic Idealize.ShloMosaic.TcCoe Cert.Kernel3Ideal Cert.Kernel3Ideal.Gen Cert.Kernel3Ideal.Facts Cert.Reference3Ideal.Read

/-- The stored weights are the weights. -/
theorem pay1_at (w : Vec Ideal S1x2048x2048 .f32) (k q : Fin 2048) : k0_pay1 w (ix2 k q) = w (ix3 0 k q) := by
  pointwise [k0_pay1]
  done

theorem pay7_at (a : Vec Ideal S256x768 .f32) (g : Vec Ideal S1x768 .f32) (r : Fin 256) (j : Fin 768) :
    k0_pay7 a g (ix2 r j) = unit w768 (fun i => a (ix2 r i)) (fun i => g (ix2 0 i)) j := by
  pointwise [k0_pay7, unit, w768]
  done

theorem pay8_at (b : Vec Ideal S256x512 .f32) (g : Vec Ideal S1x512 .f32) (r : Fin 256) (j : Fin 512) :
    k0_pay8 b g (ix2 r j) = unit w512 (fun i => b (ix2 r i)) (fun i => g (ix2 0 i)) j := by
  pointwise [k0_pay8, unit, w512]
  done

theorem pay9_at (g : Vec Ideal S1x768 .f32) (j : Fin 768) : k0_pay9 g (ix2 0 j) = g (ix2 0 j) := by
  pointwise [k0_pay9]
  done

theorem pay10_at (d : Vec Ideal S256x768 .f32) (r : Fin 256) :
    k0_pay10 d (ix2 r 0) = Ideal.div (∑ i : Fin 768, d (ix2 r i) * d (ix2 r i)) w768 := by
  pointwise [k0_pay10, w768]
  done

/-- The block's entry: the three products over the groups' normed rows. -/
theorem pay11_at (a : FVec Ideal S256x768 .bf16) (b : FVec Ideal S256x512 .bf16) (d : Vec Ideal S256x768 .f32) (g : FVec Ideal S1x768 .f32) (v : FVec Ideal S256x1 .f32)
    (wa : Vec Ideal S768x2048 .bf16) (wb : Vec Ideal S512x2048 .bf16) (wd : Vec Ideal S768x2048 .bf16) (x : Vec Ideal S256x2048 .f32) (s : Vec Ideal S1x2048 .f32)
    (r : Fin 256) (q : Fin 2048) :
    k0_pay11 a b d g v wa wb wd x s (ix2 r q)
      = x (ix2 r q) + s (ix2 0 q) * (∑ j : Fin 768, a (ix2 r j) * wa (ix2 j q) + ∑ j : Fin 512, b (ix2 r j) * wb (ix2 j q)
          + ∑ j : Fin 768, d (ix2 r j) * Ideal.rsqrt (v (ix2 r 0) + Ideal.ofBits .f32 0x358637BD#32) * g (ix2 0 j) * wd (ix2 j q)) := by
  pointwise [k0_pay11]
  done

/-- So a block's entry is the reference's, of the block's rows. -/
theorem body_at (a : Vec Ideal S256x768 .f32) (b : Vec Ideal S256x512 .f32) (d : Vec Ideal S256x768 .f32)
    (ga : Vec Ideal S1x768 .f32) (gb : Vec Ideal S1x512 .f32) (gd : Vec Ideal S1x768 .f32)
    (wa : Vec Ideal S768x2048 .bf16) (wb : Vec Ideal S512x2048 .bf16) (wd : Vec Ideal S768x2048 .bf16) (x : Vec Ideal S256x2048 .f32) (s : Vec Ideal S1x2048 .f32)
    (g w : Fin 2048 → EReal) (r : Fin 256) (q : Fin 2048)
    (hga : ∀ j : Fin 768, ga (ix2 0 j) = g ⟨j.val, by omega⟩) (hgb : ∀ j : Fin 512, gb (ix2 0 j) = g ⟨768 + j.val, by omega⟩)
    (hgd : ∀ j : Fin 768, gd (ix2 0 j) = g ⟨1280 + j.val, by omega⟩)
    (hwa : ∀ j : Fin 768, wa (ix2 j q) = w ⟨j.val, by omega⟩) (hwb : ∀ j : Fin 512, wb (ix2 j q) = w ⟨768 + j.val, by omega⟩)
    (hwd : ∀ j : Fin 768, wd (ix2 j q) = w ⟨1280 + j.val, by omega⟩) :
    k0_pay11 (k0_pay7 a ga) (k0_pay8 b gb) d (k0_pay9 gd) (k0_pay10 d) wa wb wd x s (ix2 r q)
      = entry (fun j => a (ix2 r j)) (fun j => b (ix2 r j)) (fun j => d (ix2 r j)) g w (x (ix2 r q)) (s (ix2 0 q)) := by
  rw [pay11_at]
  simp only [pay7_at, pay8_at, pay9_at, pay10_at, hga, hgb, hgd, hwa, hwb, hwd]
  rfl

end Cert.Kernel3Ideal.Proj

end
-- ==== Proof.Value3.lean ====
/- The output projection's result is the reference's. -/
module

public import proofs.«01_k».proof.Defs
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Payloads3
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Proj

open Idealize.ShloMosaic Idealize.ShloMosaic.TcCoe Idealize.SL.Sem Cert.Kernel3Ideal.Gen Cert.Reference3Ideal.Read

variable (m : (ℓ : Loc nD τ sig) → Buf (Elt Ideal) ℓ) (c : Dev nD)

/-- The program's arguments the result depends on. -/
def argA : FVec Ideal S8192x768 .f32 := m ((c : Thread nD τ).loc main_arg0)
def argB : FVec Ideal S8192x512 .f32 := m ((c : Thread nD τ).loc main_arg1)
def argD : FVec Ideal S8192x768 .f32 := m ((c : Thread nD τ).loc main_arg2)
def argG : FVec Ideal S2048 .f32 := m ((c : Thread nD τ).loc main_arg3)
def argW : FVec Ideal S2048x2048 .f32 := m ((c : Thread nD τ).loc main_arg4)
def argX : FVec Ideal S8192x2048 .f32 := m ((c : Thread nD τ).loc main_arg5)
def argM : FVec Ideal S1x12288 .f32 := m ((c : Thread nD τ).loc main_arg6)

/-- The launch's operands. -/
def opA : FVec Ideal S8192x768 .f32 := V m c main_arg0
def opB : FVec Ideal S8192x512 .f32 := V m c main_arg1
def opD : FVec Ideal S8192x768 .f32 := V m c main_arg2
def opG : FVec Ideal S1x2048 .f32 := V m c main_v14
def opW : FVec Ideal S1x2048x2048 .f32 := V m c main_v15
def opX : FVec Ideal S8192x2048 .f32 := V m c main_arg5
def opM : FVec Ideal S1x12288 .f32 := V m c main_arg6

theorem opA_eq : opA m c = argA m c := V_main_arg0 m c
theorem opB_eq : opB m c = argB m c := V_main_arg1 m c
theorem opD_eq : opD m c = argD m c := V_main_arg2 m c
theorem opX_eq : opX m c = argX m c := V_main_arg5 m c
theorem opM_eq : opM m c = argM m c := V_main_arg6 m c

theorem opG_at (j : Fin 2048) : opG m c (ix2 0 j) = argG m c (ix1 j) := by
  unfold opG V hostOps0
  after_results
  unfold argG
  pointwise
  done

theorem opW_at (k q : Fin 2048) : opW m c (ix3 0 k q) = argW m c (ix2 k q) := by
  unfold opW V hostOps0
  after_results
  unfold argW
  pointwise
  done

theorem idx : ∀ t : Fin cfg0.N, win0_0.index t = ![min t.val 31, 0] ∧ win0_1.index t = ![min t.val 31, 0]
    ∧ win0_2.index t = ![min t.val 31, 0] ∧ win0_3.index t = ![0, 0] ∧ win0_4.index t = ![0, 0, 0] ∧ win0_5.index t = ![min t.val 31, 0]
    ∧ win0_6.index t = ![0, 2] ∧ win0_13.index t = ![min t.val 31, 0] ∧ t.val < 33 :=
  (by decide +kernel : ∀ t : Fin grid0.N, _)

theorem blkA (t : Fin cfg0.N) (r : Fin 256) (j : Fin 768) :
    (iblk m c 0 t : FVec Ideal S256x768 .f32) (ix2 r j) = argA m c (ix2 ⟨min t.val 31 * 256 + r.val, by omega⟩ j) := by
  rw [← opA_eq]
  blk_ext [iblk, opA, idx t]

theorem blkB (t : Fin cfg0.N) (r : Fin 256) (j : Fin 512) :
    (iblk m c 1 t : FVec Ideal S256x512 .f32) (ix2 r j) = argB m c (ix2 ⟨min t.val 31 * 256 + r.val, by omega⟩ j) := by
  rw [← opB_eq]
  blk_ext [iblk, opB, idx t]

theorem blkD (t : Fin cfg0.N) (r : Fin 256) (j : Fin 768) :
    (iblk m c 2 t : FVec Ideal S256x768 .f32) (ix2 r j) = argD m c (ix2 ⟨min t.val 31 * 256 + r.val, by omega⟩ j) := by
  rw [← opD_eq]
  blk_ext [iblk, opD, idx t]

theorem blkG (t : Fin cfg0.N) (j : Fin 2048) :
    (iblk m c 3 t : FVec Ideal S1x2048 .f32) (ix2 0 j) = argG m c (ix1 j) := by
  rw [← opG_at]
  blk_ext [iblk, opG, idx t]

theorem blkW (t : Fin cfg0.N) (k q : Fin 2048) :
    (iblk m c 4 t : FVec Ideal S1x2048x2048 .f32) (ix3 0 k q) = argW m c (ix2 k q) := by
  rw [← opW_at]
  blk_ext [iblk, opW, idx t]

theorem blkX (t : Fin cfg0.N) (r : Fin 256) (q : Fin 2048) :
    (iblk m c 5 t : FVec Ideal S256x2048 .f32) (ix2 r q) = argX m c (ix2 ⟨min t.val 31 * 256 + r.val, by omega⟩ q) := by
  rw [← opX_eq]
  blk_ext [iblk, opX, idx t]

theorem blkM (t : Fin cfg0.N) (q : Fin 2048) :
    (iblk m c 6 t : FVec Ideal S1x2048 .f32) (ix2 0 q) = argM m c (ix2 0 ⟨4096 + q.val, by omega⟩) := by
  rw [← opM_eq]
  blk_ext [iblk, opM, idx t]

/-- The weights a point reads: those the first point stored. -/
theorem stored (n : ℕ) (hn : n < cfg0.N) (k q : Fin 2048) :
    ((outsAt0 m c n hn).2.2.2.2.2.1 : FVec Ideal S2048x2048 .bf16) (ix2 k q) = argW m c (ix2 k q) := by
  induction n with
  | zero =>
    have h := outsAt0_A m c ⟨0, hn⟩ (by norm_num) (by norm_num) (by norm_num)
    rw [show outsAt0 m c 0 hn = _ from h]
    dsimp only
    frame_out
    rw [pay1_at, blkW]
  | succ n ih =>
    have hN : n + 1 < 33 := lt_of_lt_of_eq hn N_0
    rcases Nat.mod_two_eq_zero_or_one (n + 1) with h | h
    · have e := outsAt0_C m c ⟨n + 1, hn⟩ (by show ¬(n + 1) % 33 = 0; omega) h (by show ¬(n + 1) % 2 = 1; omega)
      rw [show outsAt0 m c (n + 1) hn = _ from e]
      exact ih (Nat.lt_of_succ_lt hn)
    · have e := outsAt0_B m c ⟨n + 1, hn⟩ (by show ¬(n + 1) % 33 = 0; omega) (by show ¬(n + 1) % 2 = 0; omega) h
      rw [show outsAt0 m c (n + 1) hn = _ from e]
      exact ih (Nat.lt_of_succ_lt hn)

/-- A block's entry, its gains and weights loaded in three parts. -/
theorem loads_at (a : Vec Ideal S256x768 .f32) (b : Vec Ideal S256x512 .f32) (d : Vec Ideal S256x768 .f32) (G : Vec Ideal S1x2048 .f32)
    (X : Vec Ideal S2048x2048 .bf16) (x : Vec Ideal S256x2048 .f32) (s : Vec Ideal S1x2048 .f32) (g w : Fin 2048 → EReal) (r : Fin 256) (q : Fin 2048)
    (hG : ∀ j : Fin 2048, G (ix2 0 j) = g j) (hX : ∀ k : Fin 2048, X (ix2 k q) = w k) :
    k0_pay11 (k0_pay7 a (View.ld G (Rect.unit (s := S1x2048) ![0, 0] ![1, 768] inb_S1x2048_S1x768_0_0)))
      (k0_pay8 b (View.ld G (Rect.unit (s := S1x2048) ![0, 768] ![1, 512] inb_S1x2048_S1x512_0_768)))
      d (k0_pay9 (View.ld G (Rect.unit (s := S1x2048) ![0, 1280] ![1, 768] inb_S1x2048_S1x768_0_1280))) (k0_pay10 d)
      (View.ld X (Rect.unit (s := S2048x2048) ![0, 0] ![768, 2048] inb_S2048x2048_S768x2048_0_0))
      (View.ld X (Rect.unit (s := S2048x2048) ![768, 0] ![512, 2048] inb_S2048x2048_S512x2048_768_0))
      (View.ld X (Rect.unit (s := S2048x2048) ![1280, 0] ![768, 2048] inb_S2048x2048_S768x2048_1280_0)) x s (ix2 r q)
      = entry (fun j => a (ix2 r j)) (fun j => b (ix2 r j)) (fun j => d (ix2 r j)) g w (x (ix2 r q)) (s (ix2 0 q)) := by
  refine body_at _ _ _ _ _ _ _ _ _ _ _ g w r q (fun j => ?_) (fun j => ?_) (fun j => ?_) (fun j => ?_) (fun j => ?_) (fun j => ?_)
  · refine Eq.trans (congrArg G ?_) (hG _); idx_ext
  · refine Eq.trans (congrArg G ?_) (hG _); idx_ext
  · refine Eq.trans (congrArg G ?_) (hG _); idx_ext
  · refine Eq.trans (congrArg X ?_) (hX _); idx_ext
  · refine Eq.trans (congrArg X ?_) (hX _); idx_ext
  · refine Eq.trans (congrArg X ?_) (hX _); idx_ext

/-- What a point leaves at an entry of its block. -/
theorem point_at (t : Fin cfg0.N) (r : Fin 256) (q : Fin 2048) :
    ((outsAt0 m c t.val t.isLt).1 : FVec Ideal S256x2048 .f32) (ix2 r q)
      = ref (argA m c) (argB m c) (argD m c) (argG m c) (argW m c) (argX m c) (argM m c) (ix2 ⟨min t.val 31 * 256 + r.val, by omega⟩ q) := by
  have hN : t.val < 33 := lt_of_lt_of_eq t.isLt N_0
  rw [ref_at]
  simp only [← blkA m c t, ← blkB m c t, ← blkD m c t, ← blkX m c t, ← blkM m c t]
  rcases Nat.eq_zero_or_pos (t.val % 33) with h0 | h0
  · rw [outsAt0_A m c t h0 (by omega) (by omega)]
    dsimp only
    frame_out
    simp only [View.readCov_eq_canon']
    refine loads_at _ _ _ _ (View.canon [⟨Rect.unit (s := S2048x2048) ![0, 0] ![2048, 2048] inb_S2048x2048_S2048x2048_0_0, k0_pay1 (iblk m c 4 t)⟩]) _ _ _ _ r q (blkG m c t) fun k => ?_
    simp (disch := decide) only [View.canon_cons_unit_lit']
    rw [pay1_at, blkW]
  · rcases Nat.mod_two_eq_zero_or_one t.val with h | h
    · rw [outsAt0_C m c t (by omega) h (by omega)]
      dsimp only
      frame_out
      exact loads_at _ _ _ _ _ _ _ _ _ r q (blkG m c t) fun k =>
        (congrFun ((Memref.isWhole_whole cc0_scratch0).read_unread _) _).trans (stored m c _ _ k q)
    · rw [outsAt0_B m c t (by omega) (by omega) h]
      dsimp only
      frame_out
      exact loads_at _ _ _ _ _ _ _ _ _ r q (blkG m c t) fun k =>
        (congrFun ((Memref.isWhole_whole cc0_scratch0).read_unread _) _).trans (stored m c _ _ k q)

/-- The result array after the launch. -/
theorem final : (dats m 0 c).arrAt 13 cfg0.N
    = ref (argA m c) (argB m c) (argD m c) (argG m c) (argW m c) (argX m c) (argM m c) := by
  refine (dats m 0 c).arrAt_eq_of_covers 13 _ (by decide +kernel) fun t _ y => ?_
  blk_simp
  rw [after0_13]
  have ht := (idx t).2.2.2.2.2.2.2.2
  have hy : y = ix2 (y 0) (y 1) := by idx_ext
  rw [hy]
  refine (point_at m c t (y 0) (y 1)).trans ?_
  blk_ext [idx t]

end Cert.Kernel3Ideal.Proj

end
-- ==== Proof.Equal3.lean ====
/- From equal arguments, the output projection's kernel and reference end with the same result. -/
module

public import proofs.«01_k».proof.Proof.Frames3
public import proofs.«01_k».proof.Proof.Value3

@[expose] public section

noncomputable section

namespace Cert.Proof

open Idealize.ShloMosaic Idealize.ShloMosaic.TcCoe Idealize.SL.Sem Cert.Kernel3Ideal.Proj

theorem equal3 : algebraic_Kernel3Ideal_Reference3Ideal (hKernel3Ideal := Cert.Kernel3Ideal.Gen.facts)
    (hReference3Ideal := Cert.Reference3Ideal.Gen.facts) := by
  intro m g m' g' _ hagree
  refine ⟨fun c => Cert.Reference3Ideal.Read.ref (argA m c) (argB m c) (argD m c) (argG m c) (argW m c) (argX m c) (argM m c), ?_, ?_⟩
  · exact (θ_run _ _ _).mono (fun r h c => ⟨(Cert.Kernel3Ideal.Value.post13 m r h.1 c).trans (final m c), h.2.1 c⟩)
      (θ_run_and (Cert.Kernel3Ideal.Gen.run_main m g) (Cert.Kernel3Ideal.Gen.frame m g))
  · refine (θ_run _ _ _).mono (fun _ h c => ⟨(h c).1.trans ?_, (h c).2⟩) (Cert.Reference3Ideal.Value.run (F := Ideal) m' g')
    rw [Cert.Reference3Ideal.Read.res_eq, (hagree c).1, (hagree c).2.1, (hagree c).2.2.1, (hagree c).2.2.2.1, (hagree c).2.2.2.2.1, (hagree c).2.2.2.2.2.1, (hagree c).2.2.2.2.2.2.1]
    rfl

end Cert.Proof

end
-- ==== Proof.lean ====
module

public import proofs.«01_k».proof.Defs
public import proofs.«01_k».proof.Proof.Gen.Kernel
public import proofs.«01_k».proof.Proof.Gen.Pre_finite
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Pre_finite2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Frames
public import proofs.«01_k».proof.Proof.Equal
public import proofs.«01_k».proof.Proof.Frames2
public import proofs.«01_k».proof.Proof.Equal2
public import proofs.«01_k».proof.Proof.Frames3
public import proofs.«01_k».proof.Proof.Equal3
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts, Cert.Pre_finite2.Gen.facts,
    frame_kernel, frame_kernelIdeal, fun m ρ _ => frame_kernelIdeal m ρ trivial, frame_reference, fun m ρ _ => frame_reference m ρ trivial,
    frame_kernel2, frame_kernel2Ideal, fun m ρ _ => frame_kernel2Ideal m ρ trivial, frame_reference2,
    fun m ρ _ => frame_reference2 m ρ trivial, frame_kernel3, frame_kernel3Ideal, frame_reference3, trivial, equal, trivial, equal2, trivial, equal3⟩

end Cert.Proof

end
